-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_have_finite_top [hPre_rows_have_finite_top : Cert.Pre_rows_have_finite_top.Facts] (m : (ℓ : Loc Cert.KernelIdeal.nD Cert.KernelIdeal.τ Cert.KernelIdeal.sig) → Buf (Elt Ideal) ℓ) : Prop :=
  ∀ c : Dev Cert.KernelIdeal.nD,
    (Cert.Pre_rows_have_finite_top.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_have_finite_top [hPre_rows_have_finite_top : Cert.Pre_rows_have_finite_top.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_have_finite_top.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_rows_have_finite_top [hKernelIdeal : Cert.KernelIdeal.Facts] [hPre_rows_have_finite_top : Cert.Pre_rows_have_finite_top.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_have_finite_top m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_rows_have_finite_top [hReferenceIdeal : Cert.ReferenceIdeal.Facts] [hPre_rows_have_finite_top : Cert.Pre_rows_have_finite_top.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_have_finite_top m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_rows_have_finite_top [hKernelIdeal : Cert.KernelIdeal.Facts] [hReferenceIdeal : Cert.ReferenceIdeal.Facts] [hPre_rows_have_finite_top : Cert.Pre_rows_have_finite_top.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_have_finite_top m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_rows_have_finite_top : Cert.Pre_rows_have_finite_top.Facts),
    quiescent_Kernel (hKernel := hKernel)
    ∧ quiescent_KernelIdeal (hKernelIdeal := hKernelIdeal)
    ∧ quiescent_KernelIdeal_pre_rows_have_finite_top (hKernelIdeal := hKernelIdeal) (hPre_rows_have_finite_top := hPre_rows_have_finite_top)
    ∧ quiescent_ReferenceIdeal (hReferenceIdeal := hReferenceIdeal)
    ∧ quiescent_ReferenceIdeal_pre_rows_have_finite_top (hReferenceIdeal := hReferenceIdeal) (hPre_rows_have_finite_top := hPre_rows_have_finite_top)
    ∧ preserves_Kernel_KernelIdeal
    ∧ algebraic_KernelIdeal_ReferenceIdeal_pre_rows_have_finite_top (hKernelIdeal := hKernelIdeal) (hReferenceIdeal := hReferenceIdeal) (hPre_rows_have_finite_top := hPre_rows_have_finite_top)
-- ==== Pre_rows_have_finite_top.lean ====
abbrev S128x100000 : Shape := ⟨2, ![128, 100000]⟩
abbrev S_ : Shape := ⟨0, ![]⟩
abbrev S128 : Shape := ⟨1, ![128]⟩

class Facts : Prop where
  reducesTo_S128x100000_S128_d1 : S128x100000.ReducesTo [1] S128
  h_S_ : 0 < S_.numel
  bcast_S_S128 : S_.BroadcastsInDim S128 (![] : Fin 0 → Fin S128.rank)

variable [Facts]

def fn {F : FTy → Type} [FloatOps F] (main_arg0 : FVec F S128x100000 .f32) : IVec S128 1 :=
  let main_cst : FVec F S_ .f32 := constant S_ .f32 0xFF800000#32
  let main_v0 : FVec F S128 .f32 := (fun x v => Host.reduce FloatOps.maximumf x v reducesTo_S128x100000_S128_d1 h_S_) main_arg0 main_cst
  let main_cst_0 : FVec F S_ .f32 := constant S_ .f32 0x7F800000#32
  let main_v1 : FVec F S128 .f32 := broadcastInDim S128 ![] bcast_S_S128 main_cst_0
  let main_v2 : IVec S128 1 := cmpf .olt main_v0 main_v1
  let main_cst_1 : FVec F S_ .f32 := constant S_ .f32 0xFF800000#32
  let main_v3 : FVec F S128 .f32 := broadcastInDim S128 ![] bcast_S_S128 main_cst_1
  let main_v4 : IVec S128 1 := cmpf .ogt main_v0 main_v3
  let main_v5 : IVec S128 1 := andi main_v2 main_v4
  main_v5
-- ==== Kernel.lean ====
abbrev S128x100000 : Shape := ⟨2, ![128, 100000]⟩
abbrev S8x100000 : Shape := ⟨2, ![8, 100000]⟩
abbrev S8 : Shape := ⟨1, ![8]⟩
abbrev S8x1 : Shape := ⟨2, ![8, 1]⟩

abbrev nBuf : Space → Nat
  | .hbm => 2
  | .vmem => 4
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .local _ .vmem, ⟨0, _⟩ => ⟨S8x100000, .f32⟩
  | .local _ .vmem, ⟨1, _⟩ => ⟨S8x100000, .f32⟩
  | .local _ .vmem, ⟨2, _⟩ => ⟨S8x100000, .f32⟩
  | .local _ .vmem, ⟨3, _⟩ => ⟨S8x100000, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x100000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S128x100000 : Shape := ⟨2, ![128, 100000]⟩
abbrev S_ : Shape := ⟨0, ![]⟩
abbrev S1 : Shape := ⟨1, ![1]⟩
abbrev S2 : Shape := ⟨1, ![2]⟩
abbrev S1x1 : Shape := ⟨2, ![1, 1]⟩
abbrev S128 : Shape := ⟨1, ![128]⟩
abbrev S128x1 : Shape := ⟨2, ![128, 1]⟩
abbrev S1x100000 : Shape := ⟨2, ![1, 100000]⟩

abbrev nBuf : Space → Nat
  | .hbm => 316
  | .vmem => 0
  | .smem => 0
  | _ => 0

abbrev hbmTy0_0 (i : Nat) : BufTy := match i % 128 with
  | 0 => ⟨S128x100000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1x1, .f32⟩
  | 16 => ⟨S1x1, .f32⟩
  | 17 => ⟨S1, .i32⟩
  | 18 => ⟨S_, .i32⟩
  | 19 => ⟨S1, .i32⟩
  | 20 => ⟨S_, .i32⟩
  | 21 => ⟨S128x100000, .i64⟩
  | 22 => ⟨S128x100000, .i64⟩
  | 23 => ⟨S_, .i64⟩
  | 24 => ⟨S128x100000, .i64⟩
  | 25 => ⟨S128x100000, .i64⟩
  | 26 => ⟨S_, .i64⟩
  | 27 => ⟨S128x100000, .i64⟩
  | 28 => ⟨S128x100000, .i64⟩
  | 29 => ⟨S128x100000, .i64⟩
  | 30 => ⟨S_, .i64⟩
  | 31 => ⟨S128x100000, .i64⟩
  | 32 => ⟨S128x100000, .i64⟩
  | 33 => ⟨S128x100000, .i32⟩
  | 34 => ⟨S128x100000, .i32⟩
  | 35 => ⟨S_, .i32⟩
  | 36 => ⟨S_, .i32⟩
  | 37 => ⟨S_, .i32⟩
  | 38 => ⟨S128x100000, .i32⟩
  | 39 => ⟨S128x100000, .i32⟩
  | 40 => ⟨S128x100000, .i32⟩
  | 41 => ⟨S128x100000, .i32⟩
  | 42 => ⟨S128x100000, .i32⟩
  | 43 => ⟨S_, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S128x100000, .i32⟩
  | 50 => ⟨S128x100000, .i32⟩
  | 51 => ⟨S128x100000, .i32⟩
  | 52 => ⟨S_, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S128x100000, .i32⟩
  | 59 => ⟨S128x100000, .i32⟩
  | 60 => ⟨S128x100000, .i32⟩
  | 61 => ⟨S_, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S128x100000, .i32⟩
  | 68 => ⟨S128x100000, .i32⟩
  | 69 => ⟨S128x100000, .i32⟩
  | 70 => ⟨S_, .i32⟩
  | 71 => ⟨S128x100000, .i32⟩
  | 72 => ⟨S128x100000, .i32⟩
  | 73 => ⟨S_, .i32⟩
  | 74 => ⟨S128x100000, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S_, .i32⟩
  | 83 => ⟨S128x100000, .i32⟩
  | 84 => ⟨S128x100000, .i32⟩
  | 85 => ⟨S128x100000, .i32⟩
  | 86 => ⟨S_, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S128x100000, .i32⟩
  | 93 => ⟨S128x100000, .i32⟩
  | 94 => ⟨S128x100000, .i32⟩
  | 95 => ⟨S_, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S128x100000, .i32⟩
  | 102 => ⟨S128x100000, .i32⟩
  | 103 => ⟨S128x100000, .i32⟩
  | 104 => ⟨S_, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S128x100000, .i32⟩
  | 111 => ⟨S128x100000, .i32⟩
  | 112 => ⟨S128x100000, .i32⟩
  | 113 => ⟨S_, .i32⟩
  | 114 => ⟨S128x100000, .i32⟩
  | 115 => ⟨S128x100000, .i32⟩
  | 116 => ⟨S_, .i32⟩
  | 117 => ⟨S128x100000, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S_, .i32⟩
  | 126 => ⟨S128x100000, .i32⟩
  | 127 => ⟨S128x100000, .i32⟩
  | _ => ⟨S128x100000, .f32⟩

abbrev hbmTy0_1 (i : Nat) : BufTy := match i % 128 with
  | 0 => ⟨S128x100000, .i32⟩
  | 1 => ⟨S_, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S128x100000, .i32⟩
  | 8 => ⟨S128x100000, .i32⟩
  | 9 => ⟨S128x100000, .i32⟩
  | 10 => ⟨S_, .i32⟩
  | 11 => ⟨S128x100000, .i32⟩
  | 12 => ⟨S128x100000, .i32⟩
  | 13 => ⟨S_, .i32⟩
  | 14 => ⟨S128x100000, .i32⟩
  | 15 => ⟨S128x100000, .i32⟩
  | 16 => ⟨S128x100000, .i32⟩
  | 17 => ⟨S128x100000, .i32⟩
  | 18 => ⟨S128x100000, .i32⟩
  | 19 => ⟨S_, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S128x100000, .i32⟩
  | 26 => ⟨S128x100000, .i32⟩
  | 27 => ⟨S128x100000, .i32⟩
  | 28 => ⟨S_, .i32⟩
  | 29 => ⟨S128x100000, .i32⟩
  | 30 => ⟨S128x100000, .i32⟩
  | 31 => ⟨S_, .i32⟩
  | 32 => ⟨S128x100000, .i32⟩
  | 33 => ⟨S128x100000, .i32⟩
  | 34 => ⟨S128x100000, .i32⟩
  | 35 => ⟨S128x100000, .i32⟩
  | 36 => ⟨S128x100000, .i32⟩
  | 37 => ⟨S128x100000, .i32⟩
  | 38 => ⟨S128x100000, .i32⟩
  | 39 => ⟨S128x100000, .i32⟩
  | 40 => ⟨S_, .i32⟩
  | 41 => ⟨S128x100000, .i32⟩
  | 42 => ⟨S128x100000, .i32⟩
  | 43 => ⟨S128x100000, .i32⟩
  | 44 => ⟨S_, .i32⟩
  | 45 => ⟨S128x100000, .i32⟩
  | 46 => ⟨S128x100000, .i32⟩
  | 47 => ⟨S_, .i32⟩
  | 48 => ⟨S128x100000, .i32⟩
  | 49 => ⟨S128x100000, .i32⟩
  | 50 => ⟨S128x100000, .i32⟩
  | 51 => ⟨S128x100000, .i32⟩
  | 52 => ⟨S128x100000, .i32⟩
  | 53 => ⟨S_, .i32⟩
  | 54 => ⟨S128x100000, .i32⟩
  | 55 => ⟨S128x100000, .i32⟩
  | 56 => ⟨S_, .i32⟩
  | 57 => ⟨S128x100000, .i32⟩
  | 58 => ⟨S128x100000, .i32⟩
  | 59 => ⟨S128x100000, .i32⟩
  | 60 => ⟨S128x100000, .i32⟩
  | 61 => ⟨S128x100000, .i32⟩
  | 62 => ⟨S_, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S128x100000, .i32⟩
  | 69 => ⟨S128x100000, .i32⟩
  | 70 => ⟨S128x100000, .i32⟩
  | 71 => ⟨S_, .i32⟩
  | 72 => ⟨S128x100000, .i32⟩
  | 73 => ⟨S128x100000, .i32⟩
  | 74 => ⟨S_, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S128x100000, .i32⟩
  | 83 => ⟨S_, .i32⟩
  | 84 => ⟨S128x100000, .i32⟩
  | 85 => ⟨S128x100000, .i32⟩
  | 86 => ⟨S128x100000, .i32⟩
  | 87 => ⟨S_, .i32⟩
  | 88 => ⟨S128x100000, .i32⟩
  | 89 => ⟨S128x100000, .i32⟩
  | 90 => ⟨S_, .i32⟩
  | 91 => ⟨S128x100000, .i32⟩
  | 92 => ⟨S128x100000, .i32⟩
  | 93 => ⟨S128x100000, .i32⟩
  | 94 => ⟨S128x100000, .i32⟩
  | 95 => ⟨S128x100000, .i32⟩
  | 96 => ⟨S_, .i32⟩
  | 97 => ⟨S128x100000, .i32⟩
  | 98 => ⟨S128x100000, .i32⟩
  | 99 => ⟨S_, .i32⟩
  | 100 => ⟨S128x100000, .i32⟩
  | 101 => ⟨S128x100000, .i32⟩
  | 102 => ⟨S128x100000, .i32⟩
  | 103 => ⟨S128x100000, .i32⟩
  | 104 => ⟨S128x100000, .i32⟩
  | 105 => ⟨S_, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S128x100000, .i32⟩
  | 112 => ⟨S128x100000, .i32⟩
  | 113 => ⟨S128x100000, .i32⟩
  | 114 => ⟨S_, .i32⟩
  | 115 => ⟨S128x100000, .i32⟩
  | 116 => ⟨S128x100000, .i32⟩
  | 117 => ⟨S_, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S128x100000, .i32⟩
  | 126 => ⟨S_, .i32⟩
  | 127 => ⟨S128x100000, .i32⟩
  | _ => ⟨S128x100000, .f32⟩

abbrev hbmTy0_2 (i : Nat) : BufTy := match i % 128 with
  | 0 => ⟨S128x100000, .i32⟩
  | 1 => ⟨S128x100000, .i32⟩
  | 2 => ⟨S_, .i32⟩
  | 3 => ⟨S128x100000, .i32⟩
  | 4 => ⟨S128x100000, .i32⟩
  | 5 => ⟨S_, .i32⟩
  | 6 => ⟨S128x100000, .i32⟩
  | 7 => ⟨S128x100000, .i32⟩
  | 8 => ⟨S128x100000, .f32⟩
  | 9 => ⟨S_, .f32⟩
  | 10 => ⟨S128x100000, .f32⟩
  | 11 => ⟨S128x100000, .f32⟩
  | 12 => ⟨S1x1, .f32⟩
  | 13 => ⟨S128x100000, .f32⟩
  | 14 => ⟨S128x100000, .f32⟩
  | 15 => ⟨S128x100000, .f32⟩
  | 16 => ⟨S128x100000, .f32⟩
  | 17 => ⟨S128x100000, .f32⟩
  | 18 => ⟨S128x100000, .f32⟩
  | 19 => ⟨S_, .f32⟩
  | 20 => ⟨S128x100000, .f32⟩
  | 21 => ⟨S128x100000, .f32⟩
  | 22 => ⟨S_, .f32⟩
  | 23 => ⟨S128x100000, .f32⟩
  | 24 => ⟨S128x100000, .f32⟩
  | 25 => ⟨S128x100000, .f32⟩
  | 26 => ⟨S128x100000, .f32⟩
  | 27 => ⟨S128x100000, .f32⟩
  | 28 => ⟨S128x100000, .f32⟩
  | 29 => ⟨S128x100000, .f32⟩
  | 30 => ⟨S_, .f32⟩
  | 31 => ⟨S128x100000, .f32⟩
  | 32 => ⟨S128x100000, .f32⟩
  | 33 => ⟨S_, .f32⟩
  | 34 => ⟨S128, .f32⟩
  | 35 => ⟨S_, .f32⟩
  | 36 => ⟨S128, .f32⟩
  | 37 => ⟨S128, .f32⟩
  | 38 => ⟨S128x1, .f32⟩
  | 39 => ⟨S128x100000, .f32⟩
  | 40 => ⟨S128x100000, .f32⟩
  | 41 => ⟨S128x100000, .f32⟩
  | 42 => ⟨S_, .f32⟩
  | 43 => ⟨S128, .f32⟩
  | 44 => ⟨S128x1, .f32⟩
  | 45 => ⟨S128x100000, .f32⟩
  | 46 => ⟨S128x100000, .f32⟩
  | 47 => ⟨S128x100000, .i32⟩
  | 48 => ⟨S_, .f32⟩
  | 49 => ⟨S_, .i32⟩
  | 50 => ⟨S128, .f32⟩
  | 51 => ⟨S128, .i32⟩
  | 52 => ⟨S128x1, .i32⟩
  | 53 => ⟨S1x100000, .i32⟩
  | 54 => ⟨S128x100000, .i32⟩
  | 55 => ⟨S128x100000, .i32⟩
  | 56 => ⟨S128x100000, .i1⟩
  | 57 => ⟨S128x100000, .f32⟩
  | 58 => ⟨S128x100000, .f32⟩
  | 59 => ⟨S128x100000, .f32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_c : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_c_1 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_call0_v0 : Ref sig .tc := ⟨.hbm, 35, rfl⟩
abbrev main_call0_call0_c : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_c_0 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_c_1 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_call0_v12 : Ref sig .tc := ⟨.hbm, 50, rfl⟩
abbrev main_call0_call0_v13 : Ref sig .tc := ⟨.hbm, 51, rfl⟩
abbrev main_call0_call0_c_2 : Ref sig .tc := ⟨.hbm, 52, rfl⟩
abbrev main_call0_call0_v14 : Ref sig .tc := ⟨.hbm, 53, rfl⟩
abbrev main_call0_call0_v15 : Ref sig .tc := ⟨.hbm, 54, rfl⟩
abbrev main_call0_call0_c_3 : Ref sig .tc := ⟨.hbm, 55, rfl⟩
abbrev main_call0_call0_v16 : Ref sig .tc := ⟨.hbm, 56, rfl⟩
abbrev main_call0_call0_v17 : Ref sig .tc := ⟨.hbm, 57, rfl⟩
abbrev main_call0_call0_v18 : Ref sig .tc := ⟨.hbm, 58, rfl⟩
abbrev main_call0_call0_v19 : Ref sig .tc := ⟨.hbm, 59, rfl⟩
abbrev main_call0_call0_v20 : Ref sig .tc := ⟨.hbm, 60, rfl⟩
abbrev main_call0_call0_c_4 : Ref sig .tc := ⟨.hbm, 61, rfl⟩
abbrev main_call0_call0_v21 : Ref sig .tc := ⟨.hbm, 62, rfl⟩
abbrev main_call0_call0_v22 : Ref sig .tc := ⟨.hbm, 63, rfl⟩
abbrev main_call0_call0_c_5 : Ref sig .tc := ⟨.hbm, 64, rfl⟩
abbrev main_call0_call0_v23 : Ref sig .tc := ⟨.hbm, 65, rfl⟩
abbrev main_call0_call0_v24 : Ref sig .tc := ⟨.hbm, 66, rfl⟩
abbrev main_call0_call0_v25 : Ref sig .tc := ⟨.hbm, 67, rfl⟩
abbrev main_call0_call0_v26 : Ref sig .tc := ⟨.hbm, 68, rfl⟩
abbrev main_call0_call0_v27 : Ref sig .tc := ⟨.hbm, 69, rfl⟩
abbrev main_call0_call0_c_6 : Ref sig .tc := ⟨.hbm, 70, rfl⟩
abbrev main_call0_call0_v28 : Ref sig .tc := ⟨.hbm, 71, rfl⟩
abbrev main_call0_call0_v29 : Ref sig .tc := ⟨.hbm, 72, rfl⟩
abbrev main_call0_call0_c_7 : Ref sig .tc := ⟨.hbm, 73, rfl⟩
abbrev main_call0_call0_v30 : Ref sig .tc := ⟨.hbm, 74, rfl⟩
abbrev main_call0_call0_v31 : Ref sig .tc := ⟨.hbm, 75, rfl⟩
abbrev main_call0_call0_v32 : Ref sig .tc := ⟨.hbm, 76, rfl⟩
abbrev main_call0_call0_v33 : Ref sig .tc := ⟨.hbm, 77, rfl⟩
abbrev main_call0_call0_v34 : Ref sig .tc := ⟨.hbm, 78, rfl⟩
abbrev main_call0_call0_v35 : Ref sig .tc := ⟨.hbm, 79, rfl⟩
abbrev main_call0_call0_v36 : Ref sig .tc := ⟨.hbm, 80, rfl⟩
abbrev main_call0_call0_v37 : Ref sig .tc := ⟨.hbm, 81, rfl⟩
abbrev main_call0_call0_c_8 : Ref sig .tc := ⟨.hbm, 82, rfl⟩
abbrev main_call0_call0_v38 : Ref sig .tc := ⟨.hbm, 83, rfl⟩
abbrev main_call0_call0_v39 : Ref sig .tc := ⟨.hbm, 84, rfl⟩
abbrev main_call0_call0_v40 : Ref sig .tc := ⟨.hbm, 85, rfl⟩
abbrev main_call0_call0_c_9 : Ref sig .tc := ⟨.hbm, 86, rfl⟩
abbrev main_call0_call0_v41 : Ref sig .tc := ⟨.hbm, 87, rfl⟩
abbrev main_call0_call0_v42 : Ref sig .tc := ⟨.hbm, 88, rfl⟩
abbrev main_call0_call0_c_10 : Ref sig .tc := ⟨.hbm, 89, rfl⟩
abbrev main_call0_call0_v43 : Ref sig .tc := ⟨.hbm, 90, rfl⟩
abbrev main_call0_call0_v44 : Ref sig .tc := ⟨.hbm, 91, rfl⟩
abbrev main_call0_call0_v45 : Ref sig .tc := ⟨.hbm, 92, rfl⟩
abbrev main_call0_call0_v46 : Ref sig .tc := ⟨.hbm, 93, rfl⟩
abbrev main_call0_call0_v47 : Ref sig .tc := ⟨.hbm, 94, rfl⟩
abbrev main_call0_call0_c_11 : Ref sig .tc := ⟨.hbm, 95, rfl⟩
abbrev main_call0_call0_v48 : Ref sig .tc := ⟨.hbm, 96, rfl⟩
abbrev main_call0_call0_v49 : Ref sig .tc := ⟨.hbm, 97, rfl⟩
abbrev main_call0_call0_c_12 : Ref sig .tc := ⟨.hbm, 98, rfl⟩
abbrev main_call0_call0_v50 : Ref sig .tc := ⟨.hbm, 99, rfl⟩
abbrev main_call0_call0_v51 : Ref sig .tc := ⟨.hbm, 100, rfl⟩
abbrev main_call0_call0_v52 : Ref sig .tc := ⟨.hbm, 101, rfl⟩
abbrev main_call0_call0_v53 : Ref sig .tc := ⟨.hbm, 102, rfl⟩
abbrev main_call0_call0_v54 : Ref sig .tc := ⟨.hbm, 103, rfl⟩
abbrev main_call0_call0_c_13 : Ref sig .tc := ⟨.hbm, 104, rfl⟩
abbrev main_call0_call0_v55 : Ref sig .tc := ⟨.hbm, 105, rfl⟩
abbrev main_call0_call0_v56 : Ref sig .tc := ⟨.hbm, 106, rfl⟩
abbrev main_call0_call0_c_14 : Ref sig .tc := ⟨.hbm, 107, rfl⟩
abbrev main_call0_call0_v57 : Ref sig .tc := ⟨.hbm, 108, rfl⟩
abbrev main_call0_call0_v58 : Ref sig .tc := ⟨.hbm, 109, rfl⟩
abbrev main_call0_call0_v59 : Ref sig .tc := ⟨.hbm, 110, rfl⟩
abbrev main_call0_call0_v60 : Ref sig .tc := ⟨.hbm, 111, rfl⟩
abbrev main_call0_call0_v61 : Ref sig .tc := ⟨.hbm, 112, rfl⟩
abbrev main_call0_call0_c_15 : Ref sig .tc := ⟨.hbm, 113, rfl⟩
abbrev main_call0_call0_v62 : Ref sig .tc := ⟨.hbm, 114, rfl⟩
abbrev main_call0_call0_v63 : Ref sig .tc := ⟨.hbm, 115, rfl⟩
abbrev main_call0_call0_c_16 : Ref sig .tc := ⟨.hbm, 116, rfl⟩
abbrev main_call0_call0_v64 : Ref sig .tc := ⟨.hbm, 117, rfl⟩
abbrev main_call0_call0_v65 : Ref sig .tc := ⟨.hbm, 118, rfl⟩
abbrev main_call0_call0_v66 : Ref sig .tc := ⟨.hbm, 119, rfl⟩
abbrev main_call0_call0_v67 : Ref sig .tc := ⟨.hbm, 120, rfl⟩
abbrev main_call0_call0_v68 : Ref sig .tc := ⟨.hbm, 121, rfl⟩
abbrev main_call0_call0_v69 : Ref sig .tc := ⟨.hbm, 122, rfl⟩
abbrev main_call0_call0_v70 : Ref sig .tc := ⟨.hbm, 123, rfl⟩
abbrev main_call0_call0_v71 : Ref sig .tc := ⟨.hbm, 124, rfl⟩
abbrev main_call0_call0_c_17 : Ref sig .tc := ⟨.hbm, 125, rfl⟩
abbrev main_call0_call0_v72 : Ref sig .tc := ⟨.hbm, 126, rfl⟩
abbrev main_call0_call0_v73 : Ref sig .tc := ⟨.hbm, 127, rfl⟩
abbrev main_call0_call0_v74 : Ref sig .tc := ⟨.hbm, 128, rfl⟩
abbrev main_call0_call0_c_18 : Ref sig .tc := ⟨.hbm, 129, rfl⟩
abbrev main_call0_call0_v75 : Ref sig .tc := ⟨.hbm, 130, rfl⟩
abbrev main_call0_call0_v76 : Ref sig .tc := ⟨.hbm, 131, rfl⟩
abbrev main_call0_call0_c_19 : Ref sig .tc := ⟨.hbm, 132, rfl⟩
abbrev main_call0_call0_v77 : Ref sig .tc := ⟨.hbm, 133, rfl⟩
abbrev main_call0_call0_v78 : Ref sig .tc := ⟨.hbm, 134, rfl⟩
abbrev main_call0_call0_v79 : Ref sig .tc := ⟨.hbm, 135, rfl⟩
abbrev main_call0_call0_v80 : Ref sig .tc := ⟨.hbm, 136, rfl⟩
abbrev main_call0_call0_v81 : Ref sig .tc := ⟨.hbm, 137, rfl⟩
abbrev main_call0_call0_c_20 : Ref sig .tc := ⟨.hbm, 138, rfl⟩
abbrev main_call0_call0_v82 : Ref sig .tc := ⟨.hbm, 139, rfl⟩
abbrev main_call0_call0_v83 : Ref sig .tc := ⟨.hbm, 140, rfl⟩
abbrev main_call0_call0_c_21 : Ref sig .tc := ⟨.hbm, 141, rfl⟩
abbrev main_call0_call0_v84 : Ref sig .tc := ⟨.hbm, 142, rfl⟩
abbrev main_call0_call0_v85 : Ref sig .tc := ⟨.hbm, 143, rfl⟩
abbrev main_call0_call0_v86 : Ref sig .tc := ⟨.hbm, 144, rfl⟩
abbrev main_call0_call0_v87 : Ref sig .tc := ⟨.hbm, 145, rfl⟩
abbrev main_call0_call0_v88 : Ref sig .tc := ⟨.hbm, 146, rfl⟩
abbrev main_call0_call0_c_22 : Ref sig .tc := ⟨.hbm, 147, rfl⟩
abbrev main_call0_call0_v89 : Ref sig .tc := ⟨.hbm, 148, rfl⟩
abbrev main_call0_call0_v90 : Ref sig .tc := ⟨.hbm, 149, rfl⟩
abbrev main_call0_call0_c_23 : Ref sig .tc := ⟨.hbm, 150, rfl⟩
abbrev main_call0_call0_v91 : Ref sig .tc := ⟨.hbm, 151, rfl⟩
abbrev main_call0_call0_v92 : Ref sig .tc := ⟨.hbm, 152, rfl⟩
abbrev main_call0_call0_v93 : Ref sig .tc := ⟨.hbm, 153, rfl⟩
abbrev main_call0_call0_v94 : Ref sig .tc := ⟨.hbm, 154, rfl⟩
abbrev main_call0_call0_v95 : Ref sig .tc := ⟨.hbm, 155, rfl⟩
abbrev main_call0_call0_c_24 : Ref sig .tc := ⟨.hbm, 156, rfl⟩
abbrev main_call0_call0_v96 : Ref sig .tc := ⟨.hbm, 157, rfl⟩
abbrev main_call0_call0_v97 : Ref sig .tc := ⟨.hbm, 158, rfl⟩
abbrev main_call0_call0_c_25 : Ref sig .tc := ⟨.hbm, 159, rfl⟩
abbrev main_call0_call0_v98 : Ref sig .tc := ⟨.hbm, 160, rfl⟩
abbrev main_call0_call0_v99 : Ref sig .tc := ⟨.hbm, 161, rfl⟩
abbrev main_call0_call0_v100 : Ref sig .tc := ⟨.hbm, 162, rfl⟩
abbrev main_call0_call0_v101 : Ref sig .tc := ⟨.hbm, 163, rfl⟩
abbrev main_call0_call0_v102 : Ref sig .tc := ⟨.hbm, 164, rfl⟩
abbrev main_call0_call0_v103 : Ref sig .tc := ⟨.hbm, 165, rfl⟩
abbrev main_call0_call0_v104 : Ref sig .tc := ⟨.hbm, 166, rfl⟩
abbrev main_call0_call0_v105 : Ref sig .tc := ⟨.hbm, 167, rfl⟩
abbrev main_call0_call0_c_26 : Ref sig .tc := ⟨.hbm, 168, rfl⟩
abbrev main_call0_call0_v106 : Ref sig .tc := ⟨.hbm, 169, rfl⟩
abbrev main_call0_call0_v107 : Ref sig .tc := ⟨.hbm, 170, rfl⟩
abbrev main_call0_call0_v108 : Ref sig .tc := ⟨.hbm, 171, rfl⟩
abbrev main_call0_call0_c_27 : Ref sig .tc := ⟨.hbm, 172, rfl⟩
abbrev main_call0_call0_v109 : Ref sig .tc := ⟨.hbm, 173, rfl⟩
abbrev main_call0_call0_v110 : Ref sig .tc := ⟨.hbm, 174, rfl⟩
abbrev main_call0_call0_c_28 : Ref sig .tc := ⟨.hbm, 175, rfl⟩
abbrev main_call0_call0_v111 : Ref sig .tc := ⟨.hbm, 176, rfl⟩
abbrev main_call0_call0_v112 : Ref sig .tc := ⟨.hbm, 177, rfl⟩
abbrev main_call0_call0_v113 : Ref sig .tc := ⟨.hbm, 178, rfl⟩
abbrev main_call0_call0_v114 : Ref sig .tc := ⟨.hbm, 179, rfl⟩
abbrev main_call0_call0_v115 : Ref sig .tc := ⟨.hbm, 180, rfl⟩
abbrev main_call0_call0_c_29 : Ref sig .tc := ⟨.hbm, 181, rfl⟩
abbrev main_call0_call0_v116 : Ref sig .tc := ⟨.hbm, 182, rfl⟩
abbrev main_call0_call0_v117 : Ref sig .tc := ⟨.hbm, 183, rfl⟩
abbrev main_call0_call0_c_30 : Ref sig .tc := ⟨.hbm, 184, rfl⟩
abbrev main_call0_call0_v118 : Ref sig .tc := ⟨.hbm, 185, rfl⟩
abbrev main_call0_call0_v119 : Ref sig .tc := ⟨.hbm, 186, rfl⟩
abbrev main_call0_call0_v120 : Ref sig .tc := ⟨.hbm, 187, rfl⟩
abbrev main_call0_call0_v121 : Ref sig .tc := ⟨.hbm, 188, rfl⟩
abbrev main_call0_call0_v122 : Ref sig .tc := ⟨.hbm, 189, rfl⟩
abbrev main_call0_call0_c_31 : Ref sig .tc := ⟨.hbm, 190, rfl⟩
abbrev main_call0_call0_v123 : Ref sig .tc := ⟨.hbm, 191, rfl⟩
abbrev main_call0_call0_v124 : Ref sig .tc := ⟨.hbm, 192, rfl⟩
abbrev main_call0_call0_c_32 : Ref sig .tc := ⟨.hbm, 193, rfl⟩
abbrev main_call0_call0_v125 : Ref sig .tc := ⟨.hbm, 194, rfl⟩
abbrev main_call0_call0_v126 : Ref sig .tc := ⟨.hbm, 195, rfl⟩
abbrev main_call0_call0_v127 : Ref sig .tc := ⟨.hbm, 196, rfl⟩
abbrev main_call0_call0_v128 : Ref sig .tc := ⟨.hbm, 197, rfl⟩
abbrev main_call0_call0_v129 : Ref sig .tc := ⟨.hbm, 198, rfl⟩
abbrev main_call0_call0_c_33 : Ref sig .tc := ⟨.hbm, 199, rfl⟩
abbrev main_call0_call0_v130 : Ref sig .tc := ⟨.hbm, 200, rfl⟩
abbrev main_call0_call0_v131 : Ref sig .tc := ⟨.hbm, 201, rfl⟩
abbrev main_call0_call0_c_34 : Ref sig .tc := ⟨.hbm, 202, rfl⟩
abbrev main_call0_call0_v132 : Ref sig .tc := ⟨.hbm, 203, rfl⟩
abbrev main_call0_call0_v133 : Ref sig .tc := ⟨.hbm, 204, rfl⟩
abbrev main_call0_call0_v134 : Ref sig .tc := ⟨.hbm, 205, rfl⟩
abbrev main_call0_call0_v135 : Ref sig .tc := ⟨.hbm, 206, rfl⟩
abbrev main_call0_call0_v136 : Ref sig .tc := ⟨.hbm, 207, rfl⟩
abbrev main_call0_call0_v137 : Ref sig .tc := ⟨.hbm, 208, rfl⟩
abbrev main_call0_call0_v138 : Ref sig .tc := ⟨.hbm, 209, rfl⟩
abbrev main_call0_call0_v139 : Ref sig .tc := ⟨.hbm, 210, rfl⟩
abbrev main_call0_call0_c_35 : Ref sig .tc := ⟨.hbm, 211, rfl⟩
abbrev main_call0_call0_v140 : Ref sig .tc := ⟨.hbm, 212, rfl⟩
abbrev main_call0_call0_v141 : Ref sig .tc := ⟨.hbm, 213, rfl⟩
abbrev main_call0_call0_v142 : Ref sig .tc := ⟨.hbm, 214, rfl⟩
abbrev main_call0_call0_c_36 : Ref sig .tc := ⟨.hbm, 215, rfl⟩
abbrev main_call0_call0_v143 : Ref sig .tc := ⟨.hbm, 216, rfl⟩
abbrev main_call0_call0_v144 : Ref sig .tc := ⟨.hbm, 217, rfl⟩
abbrev main_call0_call0_c_37 : Ref sig .tc := ⟨.hbm, 218, rfl⟩
abbrev main_call0_call0_v145 : Ref sig .tc := ⟨.hbm, 219, rfl⟩
abbrev main_call0_call0_v146 : Ref sig .tc := ⟨.hbm, 220, rfl⟩
abbrev main_call0_call0_v147 : Ref sig .tc := ⟨.hbm, 221, rfl⟩
abbrev main_call0_call0_v148 : Ref sig .tc := ⟨.hbm, 222, rfl⟩
abbrev main_call0_call0_v149 : Ref sig .tc := ⟨.hbm, 223, rfl⟩
abbrev main_call0_call0_c_38 : Ref sig .tc := ⟨.hbm, 224, rfl⟩
abbrev main_call0_call0_v150 : Ref sig .tc := ⟨.hbm, 225, rfl⟩
abbrev main_call0_call0_v151 : Ref sig .tc := ⟨.hbm, 226, rfl⟩
abbrev main_call0_call0_c_39 : Ref sig .tc := ⟨.hbm, 227, rfl⟩
abbrev main_call0_call0_v152 : Ref sig .tc := ⟨.hbm, 228, rfl⟩
abbrev main_call0_call0_v153 : Ref sig .tc := ⟨.hbm, 229, rfl⟩
abbrev main_call0_call0_v154 : Ref sig .tc := ⟨.hbm, 230, rfl⟩
abbrev main_call0_call0_v155 : Ref sig .tc := ⟨.hbm, 231, rfl⟩
abbrev main_call0_call0_v156 : Ref sig .tc := ⟨.hbm, 232, rfl⟩
abbrev main_call0_call0_c_40 : Ref sig .tc := ⟨.hbm, 233, rfl⟩
abbrev main_call0_call0_v157 : Ref sig .tc := ⟨.hbm, 234, rfl⟩
abbrev main_call0_call0_v158 : Ref sig .tc := ⟨.hbm, 235, rfl⟩
abbrev main_call0_call0_c_41 : Ref sig .tc := ⟨.hbm, 236, rfl⟩
abbrev main_call0_call0_v159 : Ref sig .tc := ⟨.hbm, 237, rfl⟩
abbrev main_call0_call0_v160 : Ref sig .tc := ⟨.hbm, 238, rfl⟩
abbrev main_call0_call0_v161 : Ref sig .tc := ⟨.hbm, 239, rfl⟩
abbrev main_call0_call0_v162 : Ref sig .tc := ⟨.hbm, 240, rfl⟩
abbrev main_call0_call0_v163 : Ref sig .tc := ⟨.hbm, 241, rfl⟩
abbrev main_call0_call0_c_42 : Ref sig .tc := ⟨.hbm, 242, rfl⟩
abbrev main_call0_call0_v164 : Ref sig .tc := ⟨.hbm, 243, rfl⟩
abbrev main_call0_call0_v165 : Ref sig .tc := ⟨.hbm, 244, rfl⟩
abbrev main_call0_call0_c_43 : Ref sig .tc := ⟨.hbm, 245, rfl⟩
abbrev main_call0_call0_v166 : Ref sig .tc := ⟨.hbm, 246, rfl⟩
abbrev main_call0_call0_v167 : Ref sig .tc := ⟨.hbm, 247, rfl⟩
abbrev main_call0_call0_v168 : Ref sig .tc := ⟨.hbm, 248, rfl⟩
abbrev main_call0_call0_v169 : Ref sig .tc := ⟨.hbm, 249, rfl⟩
abbrev main_call0_call0_v170 : Ref sig .tc := ⟨.hbm, 250, rfl⟩
abbrev main_call0_v19_0 : Ref sig .tc := ⟨.hbm, 251, rfl⟩
abbrev main_call0_call0_v172 : Ref sig .tc := ⟨.hbm, 252, rfl⟩
abbrev main_call0_call0_v173 : Ref sig .tc := ⟨.hbm, 253, rfl⟩
abbrev main_call0_call0_c_44 : Ref sig .tc := ⟨.hbm, 254, rfl⟩
abbrev main_call0_call0_v174 : Ref sig .tc := ⟨.hbm, 255, rfl⟩
abbrev main_call0_v19_1 : Ref sig .tc := ⟨.hbm, 256, rfl⟩
abbrev main_call0_v20 : Ref sig .tc := ⟨.hbm, 257, rfl⟩
abbrev main_call0_c_2 : Ref sig .tc := ⟨.hbm, 258, rfl⟩
abbrev main_call0_v21 : Ref sig .tc := ⟨.hbm, 259, rfl⟩
abbrev main_call0_v22 : Ref sig .tc := ⟨.hbm, 260, rfl⟩
abbrev main_call0_c_3 : Ref sig .tc := ⟨.hbm, 261, rfl⟩
abbrev main_call0_v23 : Ref sig .tc := ⟨.hbm, 262, rfl⟩
abbrev main_call0_v24 : Ref sig .tc := ⟨.hbm, 263, rfl⟩
abbrev main_call0_v25 : Ref sig .tc := ⟨.hbm, 264, rfl⟩
abbrev main_call0_cst : Ref sig .tc := ⟨.hbm, 265, rfl⟩
abbrev main_call0_v26 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_call0_v30 : Ref sig .tc := ⟨.hbm, 270, rfl⟩
abbrev main_call0_v31 : Ref sig .tc := ⟨.hbm, 271, rfl⟩
abbrev main_call0_v32 : Ref sig .tc := ⟨.hbm, 272, rfl⟩
abbrev main_call0_v33 : Ref sig .tc := ⟨.hbm, 273, rfl⟩
abbrev main_v7 : Ref sig .tc := ⟨.hbm, 274, rfl⟩
abbrev main_cst_3 : Ref sig .tc := ⟨.hbm, 275, rfl⟩
abbrev main_v8 : Ref sig .tc := ⟨.hbm, 276, rfl⟩
abbrev main_v9 : Ref sig .tc := ⟨.hbm, 277, rfl⟩
abbrev main_cst_4 : Ref sig .tc := ⟨.hbm, 278, rfl⟩
abbrev main_v10 : Ref sig .tc := ⟨.hbm, 279, rfl⟩
abbrev main_v11 : Ref sig .tc := ⟨.hbm, 280, rfl⟩
abbrev main_v12 : Ref sig .tc := ⟨.hbm, 281, rfl⟩
abbrev main_v13 : Ref sig .tc := ⟨.hbm, 282, rfl⟩
abbrev main_v14 : Ref sig .tc := ⟨.hbm, 283, rfl⟩
abbrev main_v15 : Ref sig .tc := ⟨.hbm, 284, rfl⟩
abbrev main_v16 : Ref sig .tc := ⟨.hbm, 285, rfl⟩
abbrev main_cst_5 : Ref sig .tc := ⟨.hbm, 286, rfl⟩
abbrev main_v17 : Ref sig .tc := ⟨.hbm, 287, rfl⟩
abbrev main_v18 : Ref sig .tc := ⟨.hbm, 288, rfl⟩
abbrev main_cst_6 : Ref sig .tc := ⟨.hbm, 289, rfl⟩
abbrev main_v19 : Ref sig .tc := ⟨.hbm, 290, rfl⟩
abbrev main_cst_7 : Ref sig .tc := ⟨.hbm, 291, rfl⟩
abbrev main_v20 : Ref sig .tc := ⟨.hbm, 292, rfl⟩
abbrev main_v21 : Ref sig .tc := ⟨.hbm, 293, rfl⟩
abbrev main_v22 : Ref sig .tc := ⟨.hbm, 294, rfl⟩
abbrev main_v23 : Ref sig .tc := ⟨.hbm, 295, rfl⟩
abbrev main_v24 : Ref sig .tc := ⟨.hbm, 296, rfl⟩
abbrev main_v25 : Ref sig .tc := ⟨.hbm, 297, rfl⟩
abbrev main_cst_8 : Ref sig .tc := ⟨.hbm, 298, rfl⟩
abbrev main_v26 : Ref sig .tc := ⟨.hbm, 299, rfl⟩
abbrev main_v27 : Ref sig .tc := ⟨.hbm, 300, rfl⟩
abbrev main_v28 : Ref sig .tc := ⟨.hbm, 301, rfl⟩
abbrev main_v29 : Ref sig .tc := ⟨.hbm, 302, rfl⟩
abbrev main_call1_v0 : Ref sig .tc := ⟨.hbm, 303, rfl⟩
abbrev main_call1_cst : Ref sig .tc := ⟨.hbm, 304, rfl⟩
abbrev main_call1_c : Ref sig .tc := ⟨.hbm, 305, rfl⟩
abbrev main_call1_v1_0 : Ref sig .tc := ⟨.hbm, 306, rfl⟩
abbrev main_v30 : Ref sig .tc := ⟨.hbm, 307, rfl⟩
abbrev main_call2_v0 : Ref sig .tc := ⟨.hbm, 308, rfl⟩
abbrev main_call2_v1 : Ref sig .tc := ⟨.hbm, 309, rfl⟩
abbrev main_call2_v2 : Ref sig .tc := ⟨.hbm, 310, rfl⟩
abbrev main_call2_v3 : Ref sig .tc := ⟨.hbm, 311, rfl⟩
abbrev main_call2_v4 : Ref sig .tc := ⟨.hbm, 312, rfl⟩
abbrev main_v31 : Ref sig .tc := ⟨.hbm, 313, rfl⟩
abbrev main_v32 : Ref sig .tc := ⟨.hbm, 314, rfl⟩
abbrev main_v33 : Ref sig .tc := ⟨.hbm, 315, rfl⟩

abbrev nD : Nat := 1
abbrev τ : Topo := Topo.v7x

variable {F : FTy → Type} [FloatOps F]
-- ==== Proof.Word.lean ====
/- The word arithmetic of the generator, apart from any program: the threefry2x32 block function as a list of steps on a
   pair of 32-bit words, and what one printed round or key addition does to such a pair. Both programs are read against
   `threefry`: the kernel in KernelWord.lean, the reference in RefSeed.lean. -/
module

public import Idealize.ShloMosaic.PureOps

@[expose] public section

namespace Cert.Word

open Idealize.ShloMosaic

/-- A pair of words, the state of the block function. -/
abbrev Pair : Type := BitVec 32 × BitVec 32

/-- The rotation to the left by `d`, spelled with the complementary shift `e` to the right. -/
def spin (d e x : BitVec 32) : BitVec 32 := x <<< d ||| x >>> e

/-- One round: add the second word to the first, then rotate the second and combine it with the sum. -/
def mix (d e : BitVec 32) (p : Pair) : Pair := (p.1 + p.2, (p.1 + p.2) ^^^ spin d e p.2)

/-- One key addition: a key word on the first word, another and the addition's number on the second. -/
def addKey (a b n : BitVec 32) (p : Pair) : Pair := (p.1 + a, p.2 + b + n)

/-- The third key word of the two given ones. -/
def thirdKey (k0 k1 : BitVec 32) : BitVec 32 := k0 ^^^ k1 ^^^ 466688986#32

/-- The twenty rounds with the five key additions between them, on a pair that already carries the first key words. -/
def steps (k0 k1 k2 : BitVec 32) (p : Pair) : Pair :=
  addKey k2 k0 5 <| mix 6 26 <| mix 26 6 <| mix 15 17 <| mix 13 19 <|
  addKey k1 k2 4 <| mix 24 8 <| mix 16 16 <| mix 29 3 <| mix 17 15 <|
  addKey k0 k1 3 <| mix 6 26 <| mix 26 6 <| mix 15 17 <| mix 13 19 <|
  addKey k2 k0 2 <| mix 24 8 <| mix 16 16 <| mix 29 3 <| mix 17 15 <|
  addKey k1 k2 1 <| mix 6 26 <| mix 26 6 <| mix 15 17 <| mix 13 19 p

/-- The block function: both words of the counter pair `(h, l)` under the key `(k0, k1)`. -/
def threefry (k0 k1 h l : BitVec 32) : Pair := steps k0 k1 (thirdKey k0 k1) (h + k0, l + k1)

/-- The random word drawn for counter `n` under the key 42: the two output words combined. -/
def draw (n : BitVec 32) : BitVec 32 := (threefry 0 42 0 n).1 ^^^ (threefry 0 42 0 n).2

/-- A shift to the left by an amount below 32 is the word shift, on whatever unit. -/
theorem shli_lt (u : ArithUnit) (x d : BitVec 32) (h : d.toNat < 32) : IntOp.shli u x d = x <<< d := if_pos h

/-- A logical shift to the right by an amount below 32 is the word shift, on whatever unit. -/
theorem shrui_lt (u : ArithUnit) (x d : BitVec 32) (h : d.toNat < 32) : IntOp.shrui u x d = x >>> d := if_pos h

/-- One round as the programs print it, the rotated word first in the last operation, is `mix`. -/
theorem mix_eq (u : ArithUnit) (d e a b : BitVec 32) (hd : d.toNat < 32) (he : e.toNat < 32) :
    mix d e (a, b) = (IntOp.addi a b,
      IntOp.xori (IntOp.ori (IntOp.shli u b d) (IntOp.shrui u b e)) (IntOp.addi a b)) := by
  rw [shli_lt u b d hd, shrui_lt u b e he]
  exact Prod.ext rfl (BitVec.xor_comm _ _)

/-- The same with the sum first in the last operation. -/
theorem mix_eq' (u : ArithUnit) (d e a b : BitVec 32) (hd : d.toNat < 32) (he : e.toNat < 32) :
    mix d e (a, b) = (IntOp.addi a b,
      IntOp.xori (IntOp.addi a b) (IntOp.ori (IntOp.shli u b d) (IntOp.shrui u b e))) := by
  rw [shli_lt u b d hd, shrui_lt u b e he]
  rfl

end Cert.Word
-- ==== Proof.KernelWord.lean ====
/- The word that the kernel draws for each entry of a block: its payloads, followed pair by pair, are the steps of the
   block function on the entry's counter. -/
module

public import proofs.«01_k».proof.Proof.Gen.KernelIdeal.Frame
public import proofs.«01_k».proof.Proof.Word
public import Idealize.ShloMosaic.Lib.Pipeline.Value

@[expose] public section

noncomputable section

namespace Cert.KernelIdeal.Words

open Idealize.ShloMosaic Cert.Word
open Cert.KernelIdeal Cert.KernelIdeal.Gen Facts₀ Facts

/-- A block of words. -/
abbrev Block : Type := IVec S8x100000 32

/-- One round on two blocks, at an entry: the pair advances by `mix`. -/
theorem round_at (d e : BitVec 32) (hd : d.toNat < 32) (he : e.toNat < 32) (a b : Block) (q : S8x100000.Idx) :
    ((addi a b q, xori (ori (shli b (broadcast S8x100000 d)) (shrui b (broadcast S8x100000 e))) (addi a b) q) : Pair)
      = mix d e (a q, b q) := (mix_eq .vector d e (a q) (b q) hd he).symm

/-- One key addition on two blocks, at an entry. -/
theorem key_at (k l n : BitVec 32) (a b : Block) (q : S8x100000.Idx) :
    ((addi a (broadcast S8x100000 k) q, addi (addi b (broadcast S8x100000 l)) (broadcast S8x100000 n) q) : Pair)
      = addKey k l n (a q, b q) := rfl

/-- The rounds up to the first key addition. -/
theorem first_at (i : grid0.Coords) (q : S8x100000.Idx) :
    ((k0_pay10 i q, k0_pay12 (k0_pay9 i) k0_pay11 q) : Pair)
      = addKey 42 466689008 1 (mix 6 26 (mix 26 6 (mix 15 17 (mix 13 19 (0#32 + 0#32, k0_pay1 i q))))) := by
  have h1 : ((k0_pay2 i q, k0_pay3 i q) : Pair) = mix 13 19 (0#32 + 0#32, k0_pay1 i q) :=
    round_at 13 19 (by decide) (by decide) (addi (broadcast S8x100000 0#32) (broadcast S8x100000 0#32)) (k0_pay1 i) q
  have h2 : ((k0_pay4 i q, k0_pay5 i q) : Pair) = mix 15 17 (k0_pay2 i q, k0_pay3 i q) :=
    round_at 15 17 (by decide) (by decide) (k0_pay2 i) (k0_pay3 i) q
  have h3 : ((k0_pay6 i q, k0_pay7 i q) : Pair) = mix 26 6 (k0_pay4 i q, k0_pay5 i q) :=
    round_at 26 6 (by decide) (by decide) (k0_pay4 i) (k0_pay5 i) q
  have h4 : ((k0_pay8 i q, k0_pay9 i q) : Pair) = mix 6 26 (k0_pay6 i q, k0_pay7 i q) :=
    round_at 6 26 (by decide) (by decide) (k0_pay6 i) (k0_pay7 i) q
  rw [← h1, ← h2, ← h3, ← h4]
  exact key_at 42 466689008 1 (k0_pay8 i) (k0_pay9 i) q

/-- The next rounds, up to the first after the second key addition. -/
theorem second_at (v40 v42 v43 : Block) (q : S8x100000.Idx) :
    (((k0_pay21 v40 v42 v43) q, (k0_pay22 v40 v42 v43) q) : Pair)
      = mix 13 19 (addKey 466689008 0 2 (mix 24 8 (mix 16 16 (mix 29 3 (mix 17 15 (v42 q, (k0_pay12 v40 v43) q)))))) := by
  have h0 : (((k0_pay13 v40 v42 v43) q, (k0_pay14 v40 v42 v43) q) : Pair) = mix 17 15 (v42 q, (k0_pay12 v40 v43) q) :=
    round_at 17 15 (by decide) (by decide) v42 (k0_pay12 v40 v43) q
  have h1 : (((k0_pay15 v40 v42 v43) q, (k0_pay16 v40 v42 v43) q) : Pair) = mix 29 3 ((k0_pay13 v40 v42 v43) q, (k0_pay14 v40 v42 v43) q) :=
    round_at 29 3 (by decide) (by decide) (k0_pay13 v40 v42 v43) (k0_pay14 v40 v42 v43) q
  have h2 : (((k0_pay17 v40 v42 v43) q, (k0_pay18 v40 v42 v43) q) : Pair) = mix 16 16 ((k0_pay15 v40 v42 v43) q, (k0_pay16 v40 v42 v43) q) :=
    round_at 16 16 (by decide) (by decide) (k0_pay15 v40 v42 v43) (k0_pay16 v40 v42 v43) q
  have h3 : (((k0_pay19 v40 v42 v43) q, (xori (ori (shli (k0_pay18 v40 v42 v43) (broadcast S8x100000 24#32)) (shrui (k0_pay18 v40 v42 v43) (broadcast S8x100000 8#32))) (k0_pay19 v40 v42 v43)) q) : Pair) = mix 24 8 ((k0_pay17 v40 v42 v43) q, (k0_pay18 v40 v42 v43) q) :=
    round_at 24 8 (by decide) (by decide) (k0_pay17 v40 v42 v43) (k0_pay18 v40 v42 v43) q
  have h4 : (((addi (k0_pay19 v40 v42 v43) (broadcast S8x100000 466689008#32)) q, (k0_pay20 v40 v42 v43) q) : Pair) = addKey 466689008 0 2 ((k0_pay19 v40 v42 v43) q, (xori (ori (shli (k0_pay18 v40 v42 v43) (broadcast S8x100000 24#32)) (shrui (k0_pay18 v40 v42 v43) (broadcast S8x100000 8#32))) (k0_pay19 v40 v42 v43)) q) :=
    key_at 466689008 0 2 (k0_pay19 v40 v42 v43) (xori (ori (shli (k0_pay18 v40 v42 v43) (broadcast S8x100000 24#32)) (shrui (k0_pay18 v40 v42 v43) (broadcast S8x100000 8#32))) (k0_pay19 v40 v42 v43)) q
  have h5 : (((k0_pay21 v40 v42 v43) q, (k0_pay22 v40 v42 v43) q) : Pair) = mix 13 19 ((addi (k0_pay19 v40 v42 v43) (broadcast S8x100000 466689008#32)) q, (k0_pay20 v40 v42 v43) q) :=
    round_at 13 19 (by decide) (by decide) (addi (k0_pay19 v40 v42 v43) (broadcast S8x100000 466689008#32)) (k0_pay20 v40 v42 v43) q
  rw [← h0, ← h1, ← h2, ← h3, ← h4, ← h5]

/-- The next rounds, up to the second after the third key addition; `v88` is the sum that the first of them starts with. -/
theorem third_at (u v87 v88 : Block) (hu : v88 = addi u v87) (q : S8x100000.Idx) :
    (((k0_pay31 v87 v88 15#32) q, (k0_pay32 v87 v88 15#32) q) : Pair)
      = mix 29 3 (mix 17 15 (addKey 0 42 3 (mix 6 26 (mix 26 6 (mix 15 17 (u q, v87 q)))))) := by
  have h0 : ((v88 q, (k0_pay24 v87 v88 15#32) q) : Pair) = mix 15 17 (u q, v87 q) :=
    by
    rw [hu]
    exact round_at 15 17 (by decide) (by decide) u v87 q
  have h1 : (((k0_pay25 v87 v88 15#32) q, (k0_pay26 v87 v88 15#32) q) : Pair) = mix 26 6 (v88 q, (k0_pay24 v87 v88 15#32) q) :=
    round_at 26 6 (by decide) (by decide) v88 (k0_pay24 v87 v88 15#32) q
  have h2 : (((k0_pay27 v87 v88 15#32) q, (xori (ori (shli (k0_pay26 v87 v88 15#32) (broadcast S8x100000 6#32)) (shrui (k0_pay26 v87 v88 15#32) (broadcast S8x100000 26#32))) (k0_pay27 v87 v88 15#32)) q) : Pair) = mix 6 26 ((k0_pay25 v87 v88 15#32) q, (k0_pay26 v87 v88 15#32) q) :=
    round_at 6 26 (by decide) (by decide) (k0_pay25 v87 v88 15#32) (k0_pay26 v87 v88 15#32) q
  have h3 : (((addi (k0_pay27 v87 v88 15#32) (broadcast S8x100000 0#32)) q, (k0_pay28 v87 v88 15#32) q) : Pair) = addKey 0 42 3 ((k0_pay27 v87 v88 15#32) q, (xori (ori (shli (k0_pay26 v87 v88 15#32) (broadcast S8x100000 6#32)) (shrui (k0_pay26 v87 v88 15#32) (broadcast S8x100000 26#32))) (k0_pay27 v87 v88 15#32)) q) :=
    key_at 0 42 3 (k0_pay27 v87 v88 15#32) (xori (ori (shli (k0_pay26 v87 v88 15#32) (broadcast S8x100000 6#32)) (shrui (k0_pay26 v87 v88 15#32) (broadcast S8x100000 26#32))) (k0_pay27 v87 v88 15#32)) q
  have h4 : (((k0_pay29 v87 v88 15#32) q, (k0_pay30 v87 v88 15#32) q) : Pair) = mix 17 15 ((addi (k0_pay27 v87 v88 15#32) (broadcast S8x100000 0#32)) q, (k0_pay28 v87 v88 15#32) q) :=
    round_at 17 15 (by decide) (by decide) (addi (k0_pay27 v87 v88 15#32) (broadcast S8x100000 0#32)) (k0_pay28 v87 v88 15#32) q
  have h5 : (((k0_pay31 v87 v88 15#32) q, (k0_pay32 v87 v88 15#32) q) : Pair) = mix 29 3 ((k0_pay29 v87 v88 15#32) q, (k0_pay30 v87 v88 15#32) q) :=
    round_at 29 3 (by decide) (by decide) (k0_pay29 v87 v88 15#32) (k0_pay30 v87 v88 15#32) q
  rw [← h0, ← h1, ← h2, ← h3, ← h4, ← h5]

/-- The last rounds and the last key addition; `v129` and `v134` are the sum and the rotation that the first of them starts with. -/
theorem fourth_at (a b v129 v134 : Block) (ha : v129 = addi a b)
    (hb : v134 = ori (shli b (broadcast S8x100000 16#32)) (shrui b (broadcast S8x100000 16#32))) (q : S8x100000.Idx) :
    (((k0_pay46 v129 v134) q, (addi (addi (k0_pay45 v129 v134) k0_pay47) (broadcast S8x100000 5#32)) q) : Pair)
      = addKey 466689008 0 5 (mix 6 26 (mix 26 6 (mix 15 17 (mix 13 19 (addKey 42 466689008 4 (mix 24 8 (mix 16 16 (a q, b q)))))))) := by
  have h0 : ((v129 q, (k0_pay35 v129 v134) q) : Pair) = mix 16 16 (a q, b q) :=
    by
    rw [ha, hb]
    exact round_at 16 16 (by decide) (by decide) a b q
  have h1 : (((k0_pay36 v129 v134) q, (xori (ori (shli (k0_pay35 v129 v134) (broadcast S8x100000 24#32)) (shrui (k0_pay35 v129 v134) (broadcast S8x100000 8#32))) (k0_pay36 v129 v134)) q) : Pair) = mix 24 8 (v129 q, (k0_pay35 v129 v134) q) :=
    round_at 24 8 (by decide) (by decide) v129 (k0_pay35 v129 v134) q
  have h2 : (((addi (k0_pay36 v129 v134) (broadcast S8x100000 42#32)) q, (k0_pay37 v129 v134) q) : Pair) = addKey 42 466689008 4 ((k0_pay36 v129 v134) q, (xori (ori (shli (k0_pay35 v129 v134) (broadcast S8x100000 24#32)) (shrui (k0_pay35 v129 v134) (broadcast S8x100000 8#32))) (k0_pay36 v129 v134)) q) :=
    key_at 42 466689008 4 (k0_pay36 v129 v134) (xori (ori (shli (k0_pay35 v129 v134) (broadcast S8x100000 24#32)) (shrui (k0_pay35 v129 v134) (broadcast S8x100000 8#32))) (k0_pay36 v129 v134)) q
  have h3 : (((k0_pay38 v129 v134) q, (k0_pay39 v129 v134) q) : Pair) = mix 13 19 ((addi (k0_pay36 v129 v134) (broadcast S8x100000 42#32)) q, (k0_pay37 v129 v134) q) :=
    round_at 13 19 (by decide) (by decide) (addi (k0_pay36 v129 v134) (broadcast S8x100000 42#32)) (k0_pay37 v129 v134) q
  have h4 : (((k0_pay40 v129 v134) q, (k0_pay41 v129 v134) q) : Pair) = mix 15 17 ((k0_pay38 v129 v134) q, (k0_pay39 v129 v134) q) :=
    round_at 15 17 (by decide) (by decide) (k0_pay38 v129 v134) (k0_pay39 v129 v134) q
  have h5 : (((k0_pay42 v129 v134) q, (k0_pay43 v129 v134) q) : Pair) = mix 26 6 ((k0_pay40 v129 v134) q, (k0_pay41 v129 v134) q) :=
    round_at 26 6 (by decide) (by decide) (k0_pay40 v129 v134) (k0_pay41 v129 v134) q
  have h6 : (((k0_pay44 v129 v134) q, (k0_pay45 v129 v134) q) : Pair) = mix 6 26 ((k0_pay42 v129 v134) q, (k0_pay43 v129 v134) q) :=
    round_at 6 26 (by decide) (by decide) (k0_pay42 v129 v134) (k0_pay43 v129 v134) q
  have h7 : (((k0_pay46 v129 v134) q, (addi (addi (k0_pay45 v129 v134) k0_pay47) (broadcast S8x100000 5#32)) q) : Pair) = addKey 466689008 0 5 ((k0_pay44 v129 v134) q, (k0_pay45 v129 v134) q) :=
    key_at 466689008 0 5 (k0_pay44 v129 v134) (k0_pay45 v129 v134) q
  rw [← h0, ← h1, ← h2, ← h3, ← h4, ← h5, ← h6, ← h7]

/-- The payloads that one part of the body hands to the next. -/
abbrev w52 (i : grid0.Coords) : Block := k0_pay22 (k0_pay9 i) (k0_pay10 i) k0_pay11
/-- The sum handed on with it. -/
abbrev w53 (i : grid0.Coords) : Block := k0_pay23 (k0_pay9 i) (k0_pay10 i) k0_pay11
/-- The sum of the fifteenth round. -/
abbrev w54 (i : grid0.Coords) : Block := k0_pay33 (w52 i) (w53 i) 15#32
/-- The rotation of the fifteenth round. -/
abbrev w55 (i : grid0.Coords) : Block := k0_pay34 (w52 i) (w53 i) 15#32

/-- The entry's counter, before the key word is added. -/
def counter (i : grid0.Coords) (q : S8x100000.Idx) : BitVec 32 :=
  BitVec.ofNat 32 (i 0).val * 800000#32 + BitVec.ofNat 32 (q 0).val * 100000#32 + BitVec.ofNat 32 (q 1).val

/-- The drawn word at an entry of block `i` is `draw` of the entry's counter. -/
theorem word_at (i : grid0.Coords) (q : S8x100000.Idx) :
    xori (k0_pay46 (w54 i) (w55 i)) (addi (addi (k0_pay45 (w54 i) (w55 i)) k0_pay47) (broadcast S8x100000 5#32)) q
      = draw (counter i q) := by
  have h4 := fourth_at (k0_pay31 (w52 i) (w53 i) 15#32) (k0_pay32 (w52 i) (w53 i) 15#32) (w54 i) (w55 i) rfl rfl q
  rw [third_at (k0_pay21 (k0_pay9 i) (k0_pay10 i) k0_pay11) (w52 i) (w53 i) rfl q,
    second_at (k0_pay9 i) (k0_pay10 i) k0_pay11 q, first_at i q] at h4
  have hc : k0_pay1 i q = counter i q + 42 := by
    unfold k0_pay1 counter
    rw [← iota_single_apply .tc S8x100000 32 0 Facts₀.iota_S8x100000_d0_w32 q,
      ← iota_single_apply .tc S8x100000 32 1 Facts₀.iota_S8x100000_d1_w32 q]
    rfl
  rw [hc] at h4
  have hs : threefry 0 42 0 (counter i q) = (k0_pay46 (w54 i) (w55 i) q,
      addi (addi (k0_pay45 (w54 i) (w55 i)) k0_pay47) (broadcast S8x100000 5#32) q) := h4.symm
  unfold draw
  rw [hs]
  rfl

end Cert.KernelIdeal.Words
-- ==== Proof.RowMath.lean ====
/- The mathematics of one row, apart from any program: the least index of a row's greatest entry, the folds that find it,
   and the softmax, which keeps the order of its entries. -/
module

public import Idealize.ShloMosaic.PureOps.Ideal.Laws
public import Idealize.ShloMosaic.PureOps.Reduce

@[expose] public section

noncomputable section

namespace Cert.Row

open Idealize.ShloMosaic

/-- `k` is the first index at which the row takes its greatest entry. -/
def Best {n : ℕ} (z : Fin n → EReal) (k : Fin n) : Prop :=
  (∀ j, z j ≤ z k) ∧ ∀ j, z j = z k → k ≤ j

/-- A row that is not empty has such an index. -/
theorem best_exists {n : ℕ} (z : Fin n → EReal) (hn : 0 < n) : ∃ k, Best z k := by
  haveI : Nonempty (Fin n) := ⟨⟨0, hn⟩⟩
  obtain ⟨m, hm⟩ := Finite.exists_max z
  have hne : (Finset.univ.filter fun j => z j = z m).Nonempty := ⟨m, by simp⟩
  refine ⟨(Finset.univ.filter fun j => z j = z m).min' hne, ?_, ?_⟩
  · have h := Finset.min'_mem _ hne
    rw [Finset.mem_filter] at h
    intro j
    rw [h.2]
    exact hm j
  · have h := Finset.min'_mem _ hne
    rw [Finset.mem_filter] at h
    intro j hj
    exact Finset.min'_le _ _ (by rw [Finset.mem_filter]; exact ⟨Finset.mem_univ _, hj.trans h.2⟩)

/-- It is the same index for two rows in the same order. -/
theorem best_congr {n : ℕ} {y z : Fin n → EReal} (h : ∀ j k, y j ≤ y k ↔ z j ≤ z k) {k : Fin n} (b : Best z k) :
    Best y k := by
  refine ⟨fun j => (h j k).2 (b.1 j), fun j hj => b.2 j ?_⟩
  exact le_antisymm ((h j k).1 hj.le) ((h k j).1 hj.ge)

/-- The fold of `max` from `⊥` is the entry at that index. -/
theorem fold_max {n : ℕ} {z : Fin n → EReal} {k : Fin n} (b : Best z k) :
    (Finset.univ : Finset (Fin n)).fold max ⊥ z = z k := by
  apply le_antisymm
  · rw [Finset.fold_max_le]
    exact ⟨bot_le, fun j _ => b.1 j⟩
  · rw [Finset.le_fold_max]
    exact Or.inr ⟨k, Finset.mem_univ _, le_refl _⟩

/-- The signed minimum of two words is one of them and below both. -/
theorem minsi_spec (a b : BitVec 32) :
    (IntOp.minsi a b = a ∨ IntOp.minsi a b = b) ∧ (IntOp.minsi a b).toInt ≤ a.toInt ∧ (IntOp.minsi a b).toInt ≤ b.toInt := by
  unfold IntOp.minsi
  by_cases h : a.slt b = true
  · rw [if_pos h]
    have := BitVec.slt_iff_toInt_lt.1 h
    exact ⟨Or.inl rfl, le_refl _, this.le⟩
  · rw [if_neg h]
    have : ¬ a.toInt < b.toInt := fun c => h (BitVec.slt_iff_toInt_lt.2 c)
    exact ⟨Or.inr rfl, not_lt.1 this, le_refl _⟩

/-- The fold of the signed minimum is the entry that lies below all others and below the start. -/
theorem fold_minsi {n : ℕ} (v : Fin n → BitVec 32) (acc : BitVec 32) (k : Fin n) (hk : ∀ j, (v k).toInt ≤ (v j).toInt)
    (ha : (v k).toInt ≤ acc.toInt) :
    (Finset.univ : Finset (Fin n)).fold IKind.minsi.op acc v = v k := by
  have key : ∀ s : Finset (Fin n), (s.fold IKind.minsi.op acc v = acc ∨ ∃ j, s.fold IKind.minsi.op acc v = v j)
      ∧ ∀ j ∈ s, (s.fold IKind.minsi.op acc v).toInt ≤ (v j).toInt := by
    intro s
    induction s using Finset.induction_on with
    | empty => exact ⟨Or.inl rfl, fun j hj => absurd hj (Finset.notMem_empty j)⟩
    | insert a s hs ih =>
      rw [Finset.fold_insert hs]
      change (IntOp.minsi _ _ = _ ∨ ∃ j, IntOp.minsi _ _ = _) ∧ ∀ j ∈ _, (IntOp.minsi _ _).toInt ≤ _
      obtain ⟨h1, h2, h3⟩ := minsi_spec (v a) (s.fold IKind.minsi.op acc v)
      refine ⟨?_, ?_⟩
      · rcases h1 with h1 | h1
        · exact Or.inr ⟨a, h1⟩
        · rw [h1]; exact ih.1
      · intro j hj
        rcases Finset.mem_insert.1 hj with rfl | hj
        · exact h2
        · exact h3.trans (ih.2 j hj)
  obtain ⟨h1, h2⟩ := key Finset.univ
  apply BitVec.eq_of_toInt_eq
  apply le_antisymm (h2 k (Finset.mem_univ _))
  rcases h1 with h1 | ⟨j, h1⟩
  · rw [h1]; exact ha
  · rw [h1]; exact hk j

/-- One step of an argmax: of two pairs the one with the greater value, and on equal values the one with the smaller
    index. -/
def better (a b : EReal × BitVec 32) : EReal × BitVec 32 :=
  if b.1 < a.1 then a else if a.1 = b.1 ∧ a.2.toInt < b.2.toInt then a else b

/-- `r` is no worse than `q`. -/
def Beats (r q : EReal × BitVec 32) : Prop := q.1 < r.1 ∨ (q.1 = r.1 ∧ r.2.toInt ≤ q.2.toInt)

/-- A pair beats itself. -/
theorem beats_refl (r : EReal × BitVec 32) : Beats r r := Or.inr ⟨rfl, le_refl _⟩

/-- A pair beats what a pair that it beats beats. -/
theorem beats_trans {p q r : EReal × BitVec 32} (h : Beats r q) (h' : Beats q p) : Beats r p := by
  rcases h with h | ⟨h, i⟩ <;> rcases h' with h' | ⟨h', i'⟩
  · exact Or.inl (h'.trans h)
  · exact Or.inl (h' ▸ h)
  · exact Or.inl (h ▸ h')
  · exact Or.inr ⟨h'.trans h, i.trans i'⟩

/-- A step returns one of its pairs, no worse than either. -/
theorem better_spec (a b : EReal × BitVec 32) :
    (better a b = a ∨ better a b = b) ∧ Beats (better a b) a ∧ Beats (better a b) b := by
  unfold better
  by_cases h : b.1 < a.1
  · rw [if_pos h]
    exact ⟨Or.inl rfl, beats_refl a, Or.inl h⟩
  · rw [if_neg h]
    by_cases h' : a.1 = b.1 ∧ a.2.toInt < b.2.toInt
    · rw [if_pos h']
      exact ⟨Or.inl rfl, beats_refl a, Or.inr ⟨h'.1.symm, h'.2.le⟩⟩
    · rw [if_neg h']
      refine ⟨Or.inr rfl, ?_, beats_refl b⟩
      rcases lt_or_eq_of_le (not_lt.1 h) with c | c
      · exact Or.inl c
      · exact Or.inr ⟨c, not_lt.1 fun d => h' ⟨c, d⟩⟩

/-- The fold of the steps over a list returns a pair of the list, or the start, that is no worse than any. -/
theorem foldl_better (l : List (EReal × BitVec 32)) (p : EReal × BitVec 32) :
    (l.foldl better p = p ∨ l.foldl better p ∈ l) ∧ Beats (l.foldl better p) p ∧ ∀ q ∈ l, Beats (l.foldl better p) q := by
  induction l generalizing p with
  | nil => exact ⟨Or.inl rfl, beats_refl p, fun q hq => absurd hq List.not_mem_nil⟩
  | cons a l ih =>
    obtain ⟨h1, h2, h3⟩ := ih (better p a)
    obtain ⟨g1, g2, g3⟩ := better_spec p a
    rw [List.foldl_cons]
    refine ⟨?_, beats_trans h2 g2, ?_⟩
    · rcases h1 with h1 | h1
      · rcases g1 with g1 | g1
        · exact Or.inl (h1.trans g1)
        · exact Or.inr (by rw [h1, g1]; exact List.mem_cons_self)
      · exact Or.inr (List.mem_cons_of_mem _ h1)
    · intro q hq
      rcases List.mem_cons.1 hq with rfl | hq
      · exact beats_trans h2 g3
      · exact h3 q hq

/-- The word of an index below `2 ^ 31` is that index. -/
theorem toInt_index {n : ℕ} (h : n < 2 ^ 31) : (BitVec.ofNat 32 n).toInt = n := by
  rw [BitVec.toInt_eq_toNat_cond, BitVec.toNat_ofNat, Nat.mod_eq_of_lt (by omega)]
  rw [if_pos (by omega)]

/-- The argmax of a row whose greatest entry is above the start `⊥`: the word of its first index, over any list that holds
    exactly the row's pairs. -/
theorem foldl_best {n : ℕ} (hn : n < 2 ^ 31) {y : Fin n → EReal} {k : Fin n} (b : Best y k) (hk : y k ≠ ⊥)
    (l : List (EReal × BitVec 32)) (hl : ∀ q, q ∈ l ↔ ∃ j : Fin n, q = (y j, BitVec.ofNat 32 j.val)) :
    (l.foldl better (⊥, 0#32)).2 = BitVec.ofNat 32 k.val := by
  obtain ⟨h1, -, h3⟩ := foldl_better l (⊥, 0#32)
  have hb := h3 _ ((hl _).2 ⟨k, rfl⟩)
  rcases h1 with h1 | h1
  · rw [h1] at hb
    rcases hb with hb | ⟨hb, -⟩
    · exact absurd hb not_lt_bot
    · exact absurd hb hk
  · obtain ⟨j, hj⟩ := (hl _).1 h1
    rw [hj] at hb ⊢
    rcases hb with hb | ⟨hb, hi⟩
    · exact absurd (b.1 j) (not_le.2 hb)
    · have e := b.2 j hb.symm
      simp only at hi
      rw [toInt_index (by omega), toInt_index (by omega)] at hi
      have : j = k := le_antisymm (by exact_mod_cast hi) e
      rw [this]

/-- The softmax of a row with a real greatest entry is a row of reals in the same order. -/
theorem softmax {n : ℕ} {z : Fin n → EReal} {k : Fin n} (b : Best z k) (m : ℝ) (hm : z k = m) :
    ∃ p : Fin n → ℝ, (∀ j, Ideal.div (Ideal.exp (z j - z k)) (0 + ∑ i, Ideal.exp (z i - z k)) = ((p j : ℝ) : EReal))
      ∧ ∀ i j, ((p i : ℝ) : EReal) ≤ ((p j : ℝ) : EReal) ↔ z i ≤ z j := by
  have he : ∀ j, ∃ e : ℝ, Ideal.exp (z j - z k) = (e : EReal) ∧ 0 ≤ e ∧ (z j = ⊥ ∧ e = 0 ∨ ∃ r : ℝ, z j = r ∧ e = Real.exp (r - m)) := by
    intro j
    have hj := b.1 j
    rw [hm] at hj ⊢
    induction hz : z j using EReal.rec with
    | bot => exact ⟨0, by rw [EReal.bot_sub]; rfl, le_refl _, Or.inl ⟨rfl, rfl⟩⟩
    | coe r => exact ⟨Real.exp (r - m), by rw [← EReal.coe_sub]; rfl, (Real.exp_pos _).le, Or.inr ⟨r, rfl, rfl⟩⟩
    | top => rw [hz] at hj; exact absurd hj (not_le.2 (EReal.coe_lt_top m))
  choose e h1 h2 h3 using he
  have hk1 : e k = 1 := by
    rcases h3 k with ⟨c, -⟩ | ⟨r, c, d⟩
    · rw [hm] at c; exact absurd c (EReal.coe_ne_bot m)
    · rw [hm] at c
      have : m = r := EReal.coe_injective c
      rw [d, this, sub_self, Real.exp_zero]
  have hS : (0 : EReal) + ∑ i, Ideal.exp (z i - z k) = ((∑ i, e i : ℝ) : EReal) := by
    rw [zero_add]
    simp only [h1]
    exact (map_sum (⟨⟨((↑) : ℝ → EReal), EReal.coe_zero⟩, EReal.coe_add⟩ : ℝ →+ EReal) e Finset.univ).symm
  have hpos : (0 : ℝ) < ∑ i, e i := by
    have : e k ≤ ∑ i, e i := Finset.single_le_sum (fun i _ => h2 i) (Finset.mem_univ k)
    rw [hk1] at this
    linarith
  refine ⟨fun j => e j * (∑ i, e i)⁻¹, ?_, ?_⟩
  · intro j
    rw [hS, h1 j]
    unfold Ideal.div
    rw [if_neg (by intro c; exact hpos.ne' (EReal.coe_eq_zero.1 c)), EReal.coe_mul, EReal.coe_inv]
  · intro i j
    rw [EReal.coe_le_coe_iff, mul_le_mul_iff_left₀ (inv_pos.2 hpos)]
    rcases h3 i with ⟨a, a'⟩ | ⟨r, a, a'⟩ <;> rcases h3 j with ⟨c, c'⟩ | ⟨s, c, c'⟩
    · rw [a, c, a', c']; simp
    · rw [a, a']; exact ⟨fun _ => bot_le, fun _ => h2 j⟩
    · rw [a, a', c, c']
      exact ⟨fun h => absurd h (not_le.2 (Real.exp_pos _)), fun h => absurd h (not_le.2 (EReal.bot_lt_coe r))⟩
    · rw [a, a', c, c', EReal.coe_le_coe_iff, Real.exp_le_exp]
      exact ⟨fun h => by linarith, fun h => by linarith⟩

/-- Taking a real off and putting it back changes nothing. -/
theorem sub_add_real (h : EReal) (p : ℝ) : h - (p : EReal) + (p : EReal) = h := by
  induction h using EReal.rec with
  | bot => rfl
  | coe r => rw [← EReal.coe_sub, ← EReal.coe_add, sub_add_cancel]
  | top => rfl

end Cert.Row
-- ==== Proof.Uniform.lean ====
/- The noise of one entry as a function of its random word: the 23 high bits of the word as a real number below 1, and
   twice the negated logarithm of it, which is a real number. Both programs' spellings of it are equal. -/
module

public import Idealize.ShloMosaic.PureOps.Ideal.Laws
public import Idealize.ShloMosaic.Lib.IdealHost

@[expose] public section

noncomputable section

namespace Cert.Noise

open Idealize.ShloMosaic Idealize.ShloMosaic.Ideal

/-- The bit pattern of a number from 1 up to 2 that carries the 23 high bits of a word. -/
def pattern (w : BitVec 32) : BitVec 32 := w >>> 9 ||| 1065353216#32

/-- The sign bit of the pattern is clear. -/
theorem pattern_sign (w : BitVec 32) : (pattern w).extractLsb' 31 1 = 0#1 := by
  unfold pattern
  apply BitVec.eq_of_getLsbD_eq
  intro i hi
  have : i = 0 := by omega
  subst this
  simp [BitVec.getLsbD_extractLsb']

/-- The exponent of the pattern is that of 1. -/
theorem pattern_exponent (w : BitVec 32) : (pattern w).extractLsb' 23 8 = 127#8 := by
  unfold pattern
  apply BitVec.eq_of_getLsbD_eq
  intro i hi
  rw [BitVec.getLsbD_extractLsb', BitVec.getLsbD_or, BitVec.getLsbD_ushiftRight]
  rw [BitVec.getLsbD_of_ge w (9 + (23 + i)) (by omega), Bool.false_or]
  have : ∀ i : Fin 8, (decide (i.val < 8) && (1065353216#32).getLsbD (23 + i.val)) = (127#8).getLsbD i.val := by decide
  exact this ⟨i, hi⟩

/-- The pattern denotes `1 + t / 2 ^ 23` for a natural number `t` below `2 ^ 23`. -/
theorem pattern_value (w : BitVec 32) :
    ∃ t : ℕ, t < 2 ^ 23 ∧ Ideal.ofBits .f32 (pattern w) = ((1 + (t : ℝ) / 2 ^ 23 : ℝ) : EReal) := by
  refine ⟨((pattern w).extractLsb' 0 23).toNat, BitVec.isLt _, ?_⟩
  show Ideal.ieee 8 23 (pattern w) = _
  unfold Ideal.ieee
  simp only [show (8 + 23 : ℕ) = 31 from rfl, pattern_sign, pattern_exponent]
  rw [if_neg (by decide), if_neg (by decide)]
  congr 1
  rw [if_neg (by decide)]
  simp only [show (127#8).toNat = 127 from rfl]
  push_cast
  norm_num
  ring

/-- The pattern of the smallest normal number denotes `2 ^ (-126)`. -/
theorem tiny_value : Ideal.ofBits .f32 0x00800000#32 = (((2 : ℝ) ^ (-126 : ℤ) : ℝ) : EReal) := by
  simp [Ideal.ofBits, Ideal.ieee, -EReal.coe_mul]
  norm_num

/-- The fraction drawn from a word. -/
def fraction (w : BitVec 32) : EReal := Ideal.ofBits .f32 (pattern w) - Ideal.ofBits .f32 0x3F800000#32

/-- It is a real number at least 0 and at most `1 - 2 ^ (-23)`. -/
theorem fraction_value (w : BitVec 32) : ∃ r : ℝ, fraction w = (r : EReal) ∧ 0 ≤ r ∧ r ≤ 1 - 1 / 2 ^ 23 := by
  obtain ⟨t, ht, h⟩ := pattern_value w
  refine ⟨(t : ℝ) / 2 ^ 23, ?_, by positivity, ?_⟩
  · unfold fraction
    rw [h, ofBits_one_f32, ← EReal.coe_one, ← EReal.coe_sub]
    congr 1
    ring
  · have : (t : ℝ) + 1 ≤ 2 ^ 23 := by exact_mod_cast ht
    rw [le_sub_iff_add_le, ← add_div, div_le_one (by positivity)]
    exact this

/-- The uniform draw of a word: the fraction, moved off 0. -/
def uniform (w : BitVec 32) : EReal :=
  max (Ideal.ofBits .f32 0x00800000#32) (fraction w + Ideal.ofBits .f32 0x00800000#32)

/-- It is a real number strictly between 0 and 1. -/
theorem uniform_value (w : BitVec 32) : ∃ u : ℝ, uniform w = (u : EReal) ∧ 0 < u ∧ u < 1 := by
  obtain ⟨r, h, h0, h1⟩ := fraction_value w
  have hp : (0 : ℝ) < (2 : ℝ) ^ (-126 : ℤ) := by positivity
  have hq : (2 : ℝ) ^ (-126 : ℤ) < 1 / 2 ^ 23 := by norm_num
  refine ⟨r + (2 : ℝ) ^ (-126 : ℤ), ?_, by linarith, lt_of_lt_of_le (add_lt_add_of_le_of_lt h1 hq) (by norm_num)⟩
  unfold uniform
  rw [h, tiny_value, ← EReal.coe_add]
  exact max_eq_right (EReal.coe_le_coe_iff.2 (by linarith))

/-- The noise of a word: the Gumbel quantile of its uniform draw. -/
def gumbel (w : BitVec 32) : EReal := -(Ideal.log (-(Ideal.log (uniform w))))

/-- It is a real number. -/
theorem gumbel_value (w : BitVec 32) : ∃ g : ℝ, gumbel w = (g : EReal) := by
  obtain ⟨u, h, h0, h1⟩ := uniform_value w
  refine ⟨-(Real.log (-(Real.log u))), ?_⟩
  have hl : Real.log u < 0 := Real.log_neg h0 h1
  unfold gumbel
  rw [h, Ideal.log_coe, if_neg (not_le.2 h0), ← EReal.coe_neg, Ideal.log_coe, if_neg (by linarith), ← EReal.coe_neg]

/-- The kernel's spelling of the noise: a length of 1 as a factor, and differences from 0 for the negations. -/
theorem kernel_spelling (w : BitVec 32) :
    Ideal.ofBits .f32 0x00000000#32 - Ideal.log (Ideal.ofBits .f32 0x00000000#32 - Ideal.log
      (max (Ideal.ofBits .f32 0x00800000#32)
        (fraction w * Ideal.ofBits .f32 0x3F800000#32 + Ideal.ofBits .f32 0x00800000#32))) = gumbel w := by
  rw [ofBits_one_f32, ofBits_zero_f32, mul_one, zero_sub, zero_sub]
  rfl

/-- The reference's spelling: the draw kept at 0 or above, then the shift off 0. -/
theorem reference_spelling (w p : BitVec 32) (h : p = pattern w) :
    -(Ideal.log (-(Ideal.log (max (Ideal.ofBits .f32 0x00800000#32)
      (max 0 (Ideal.ofBits .f32 p - 1) + Ideal.ofBits .f32 0x00800000#32))))) = gumbel w := by
  obtain ⟨r, hr, h0, -⟩ := fraction_value w
  have hf : max (0 : EReal) (fraction w) = fraction w := max_eq_right (by rw [hr]; exact EReal.coe_nonneg.2 h0)
  have e : Ideal.ofBits .f32 p - 1 = fraction w := by
    unfold fraction
    rw [h, ofBits_one_f32]
  rw [e, hf]
  rfl

end Cert.Noise
-- ==== Proof.Target.lean ====
/- The sample that both programs compute: at each entry 1 where the noisy row takes its greatest value first, and 0
   elsewhere. -/
module

public import proofs.«01_k».proof.Proof.Word
public import proofs.«01_k».proof.Proof.RowMath
public import proofs.«01_k».proof.Proof.Uniform
public import Idealize.ShloMosaic.Lib.Pointwise

@[expose] public section

noncomputable section

namespace Cert.Target

open Idealize.ShloMosaic

/-- The shape of the logits. -/
abbrev Whole : Shape := ⟨2, ![128, 100000]⟩

/-- Row `r` of the logits with its noise: at column `c` the noise of the word drawn for the row-major position. -/
def noisyRow (x : Whole.Idx → EReal) (r : Fin 128) : Fin 100000 → EReal := fun c =>
  x (ix2 r c) + Noise.gumbel (Word.draw (BitVec.ofNat 32 (100000 * r.val + c.val)))

/-- 1 at the first index of the row's greatest entry, 0 elsewhere. -/
def mark {n : ℕ} (z : Fin n → EReal) (c : Fin n) : EReal :=
  open Classical in if Row.Best z c then 1 else 0

/-- The sample of the logits. -/
def sample (x : Whole.Idx → EReal) : Whole.Idx → EReal := fun i => mark (noisyRow x (i 0)) (i 1)

/-- An index other than the first of the greatest entry is unmarked, that one is marked. -/
theorem mark_of_best {n : ℕ} {z : Fin n → EReal} {k : Fin n} (b : Row.Best z k) (c : Fin n) :
    mark z c = if c = k then 1 else 0 := by
  unfold mark
  by_cases h : c = k
  · subst h; rw [if_pos b, if_pos rfl]
  · rw [if_neg h, if_neg]
    intro b'
    exact h (le_antisymm (b'.2 k (le_antisymm (b'.1 k) (b.1 c))) (b.2 c (le_antisymm (b.1 c) (b'.1 k))))

end Cert.Target
-- ==== Proof.KernelBlock.lean ====
/- The block that the kernel stores at a grid point: each row's sample, from the logits' block and the words drawn for
   it. -/
module

public import proofs.«01_k».proof.Proof.KernelWord
public import proofs.«01_k».proof.Proof.Target
public import Idealize.ShloMosaic.Lib.Pipeline.ValueKit

@[expose] public section

noncomputable section

namespace Cert.KernelIdeal.Block

open Idealize.ShloMosaic Cert.Word Cert.Target
open Cert.KernelIdeal Cert.KernelIdeal.Gen Facts₀ Facts

/-- A float block. -/
abbrev Floats : Type := FVec Ideal S8x100000 .f32

/-- The kernel's noisy block from the words of its entries. -/
def noised (w : IVec S8x100000 32) (x : Floats) : Floats :=
  addf x (subf (broadcast S8x100000 (Scalar.ofBits .f32 0x00000000#32)) (log
    (subf (broadcast S8x100000 (Scalar.ofBits .f32 0x00000000#32)) (log
      (maximumf (broadcast S8x100000 (Scalar.ofBits .f32 0x00800000#32))
        (addf (mulf (subf (bitcastToFloat .f32 (ori (shrui w (broadcast S8x100000 9#32)) (broadcast S8x100000 1065353216#32)))
          (broadcast S8x100000 (Scalar.ofBits .f32 0x3F800000#32)))
          (broadcast S8x100000 (Scalar.ofBits .f32 0x3F800000#32)))
          (broadcast S8x100000 (Scalar.ofBits .f32 0x00800000#32))))))))

/-- The columns' numbers. -/
def columns : IVec S8x100000 32 := iota .tc S8x100000 32 [1] Facts₀.iota_S8x100000_d1_w32

/-- Each row's maximum, at every entry of the row. -/
def tops (z : Floats) : Floats :=
  broadcastTo S8x100000 (shapeCast S8x1
    (multiReduction .maximumf [1] S8 z 0xFF800000#32 Facts₀.reduces_S8x100000_S8 (.inl rfl) rfl) Facts₀.shapeCasts_S8_S8x1)
    Facts₀.broadcasts_S8x1_S8x100000

/-- Each row's smallest word, at every entry of the row. -/
def lows (v : IVec S8x100000 32) : IVec S8x100000 32 :=
  broadcastTo S8x100000 (shapeCast S8x1
    (multiReductionI .minsi [1] S8 v 2147483647#32 Facts₀.reduces_S8x100000_S8 rfl) Facts₀.shapeCasts_S8_S8x1)
    Facts₀.broadcasts_S8x1_S8x100000

/-- The columns that take the row's maximum, 100000 at the others. -/
def hits (z : Floats) : IVec S8x100000 32 :=
  select (cmpf .oeq z (tops z)) columns (broadcast S8x100000 100000#32)

/-- The sample of a noisy block. -/
def picked (z : Floats) : Floats := sitofp .f32 (extui 32 (cmpi .eq columns (lows (hits z))) Facts₀.natLt_1_32)

/-- The stored payload is the sample of the noisy block. -/
theorem payload_eq (a b c : IVec S8x100000 32) (x : Floats) :
    k0_pay48 a b c x = picked (noised (xori b (addi (addi a c) (broadcast S8x100000 5#32))) x) := rfl

/-- The noisy block at an entry. -/
theorem noised_apply (w : IVec S8x100000 32) (x : Floats) (q : S8x100000.Idx) :
    noised w x q = x q + Noise.gumbel (w q) := by
  have h : Noise.pattern (w q) = IntOp.ori (IntOp.shrui .vector (w q) 9#32) 1065353216#32 := by
    rw [shrui_lt .vector (w q) 9#32 (by decide)]
    rfl
  rw [← Noise.kernel_spelling]
  unfold Noise.fraction
  rw [h]
  rfl

/-- A row's value, cast to a column and spread over the row. -/
theorem spread_apply {α : Type} (v : S8.Idx → α) (q : S8x100000.Idx) :
    broadcastTo S8x100000 (shapeCast S8x1 v Facts₀.shapeCasts_S8_S8x1) Facts₀.broadcasts_S8x1_S8x100000 q
      = v (ix1 (q 0)) := by
  pointwise

/-- The entry over a row at a column. -/
theorem lift_eq (r : Fin 8) (c : Fin 100000) :
    Facts₀.reduces_S8x100000_S8.lift (ix1 r) c = (ix2 r c : S8x100000.Idx) := by
  funext a
  apply Fin.ext
  match a with
  | ⟨0, _⟩ => rfl
  | ⟨1, _⟩ => rfl

/-- The row `r` of a block. -/
def row (z : Floats) (r : Fin 8) : Fin 100000 → EReal := fun c => z (ix2 r c)

/-- The maximum of a row whose greatest entry is at column `k`. -/
theorem tops_apply (z : Floats) (r : Fin 8) (c k : Fin 100000) (b : Row.Best (row z r) k) :
    tops z (ix2 r c) = row z r k := by
  have n : (FloatOps.ofBits .f32 0xFF800000#32 : Ideal .f32) = (⊥ : EReal) := by
    show Ideal.ofBits .f32 0xFF800000#32 = ⊥
    simp [Ideal.ofBits, Ideal.ieee]
  have e : (z ∘ Facts₀.reduces_S8x100000_S8.lift (ix1 r)) = row z r := funext fun c => congrArg z (lift_eq r c)
  refine (spread_apply _ (ix2 r c)).trans ?_
  refine (Ideal.multiReduction_maximumf_single z _ _ _ _ (ix1 r)).trans ?_
  rw [e, n]
  exact Row.fold_max b

/-- The hits of a row at a column. -/
theorem hits_apply (z : Floats) (r : Fin 8) (c k : Fin 100000) (b : Row.Best (row z r) k) :
    hits z (ix2 r c) = if row z r c = row z r k then BitVec.ofNat 32 c.val else 100000#32 := by
  have t : tops z (ix2 r c) = row z r k := tops_apply z r c k b
  have col : columns (ix2 r c) = BitVec.ofNat 32 c.val := iota_single_apply _ _ _ _ _ _
  show Scalar.select (Ideal.cmp .oeq (row z r c) (tops z (ix2 r c))) (columns (ix2 r c)) 100000#32 = _
  rw [t, col]
  by_cases h : row z r c = row z r k
  · rw [if_pos h]; simp [Ideal.cmp, Scalar.select, h]
  · rw [if_neg h]; simp [Ideal.cmp, Scalar.select, h]

/-- The smallest hit of a row is the first column of its greatest entry. -/
theorem lows_apply (z : Floats) (r : Fin 8) (c k : Fin 100000) (b : Row.Best (row z r) k) :
    lows (hits z) (ix2 r c) = BitVec.ofNat 32 k.val := by
  have e : (hits z ∘ Facts₀.reduces_S8x100000_S8.lift (ix1 r))
      = fun c : Fin 100000 => if row z r c = row z r k then BitVec.ofNat 32 c.val else 100000#32 :=
    funext fun c => (congrArg (hits z) (lift_eq r c)).trans (hits_apply z r c k b)
  refine (spread_apply _ (ix2 r c)).trans ?_
  refine (multiReductionI_eq_fold _ _ _ _ _ _).trans ?_
  refine (Facts₀.reduces_S8x100000_S8.fold_filter_drop_single _ _ _ (ix1 r)).trans ?_
  rw [e]
  refine (Row.fold_minsi (fun c : Fin 100000 => if row z r c = row z r k then BitVec.ofNat 32 c.val else 100000#32)
    2147483647#32 k ?_ ?_).trans (if_pos rfl)
  · intro j
    rw [if_pos rfl, Row.toInt_index (by omega)]
    by_cases hj : row z r j = row z r k
    · rw [if_pos hj, Row.toInt_index (by omega)]
      exact_mod_cast b.2 j hj
    · rw [if_neg hj, show (100000#32).toInt = 100000 by decide]
      omega
  · rw [if_pos rfl, Row.toInt_index (by omega), show (2147483647#32).toInt = 2147483647 by decide]
    omega

/-- Whether two columns' words are equal, as a float. -/
theorem flag_apply (c k : Fin 100000) :
    FloatOps.sitofp (F := Ideal) .f32 ((IntOp.cmpi .eq (BitVec.ofNat 32 c.val) (BitVec.ofNat 32 k.val)).setWidth 32)
      = (if c = k then 1 else 0 : EReal) := by
  have inj : BitVec.ofNat 32 c.val = BitVec.ofNat 32 k.val ↔ c = k := by
    constructor
    · intro h
      have := congrArg BitVec.toNat h
      rw [BitVec.toNat_ofNat, BitVec.toNat_ofNat, Nat.mod_eq_of_lt (by omega), Nat.mod_eq_of_lt (by omega)] at this
      exact Fin.ext this
    · rintro rfl; rfl
  show (((((IntOp.cmpi .eq (BitVec.ofNat 32 c.val) (BitVec.ofNat 32 k.val)).setWidth 32).toInt : ℤ) : ℝ) : EReal) = _
  by_cases h : c = k
  · rw [if_pos h, inj.2 h]
    simp [IntOp.cmpi]
  · rw [if_neg h]
    have : (BitVec.ofNat 32 c.val == BitVec.ofNat 32 k.val) = false := by
      rw [beq_eq_false_iff_ne]; exact fun e => h (inj.1 e)
    simp only [IntOp.cmpi, this]
    simp

/-- The sample of a noisy block marks each row's first greatest entry. -/
theorem picked_apply (z : Floats) (r : Fin 8) (c : Fin 100000) : picked z (ix2 r c) = mark (row z r) c := by
  obtain ⟨k, b⟩ := Row.best_exists (row z r) (by decide)
  rw [mark_of_best b, ← flag_apply c k]
  have col : columns (ix2 r c) = BitVec.ofNat 32 c.val := iota_single_apply _ _ _ _ _ _
  rw [← lows_apply z r c k b, ← col]
  rfl

/-- The block stored at a grid point, from the logits' block: at each entry the mark of its noisy row. -/
theorem stored_apply (i : grid0.Coords) (x : Floats) (r : Fin 8) (c : Fin 100000) :
    (out0_1 (F := Ideal) i x : Floats) (ix2 r c)
      = mark (fun c : Fin 100000 => x (ix2 r c) + Noise.gumbel (draw (Words.counter i (ix2 r c)))) c := by
  have h : (out0_1 (F := Ideal) i x : Floats) = picked (noised (fun q => draw (Words.counter i q)) x) := by
    have hw : xori (k0_pay46 (k0_pay54 (F := Ideal) i x) (k0_pay55 (F := Ideal) i x)) (addi (addi (k0_pay45 (k0_pay54 (F := Ideal) i x) (k0_pay55 (F := Ideal) i x)) k0_pay47)
        (broadcast S8x100000 5#32)) = fun q => draw (Words.counter i q) := funext fun q => Words.word_at i q
    unfold out0_1
    refine (View.canon_cons_unit_lit' _ _ [] (by decide)).trans ?_
    rw [payload_eq, hw, View.ld_unit_lit' _ _ (by decide)]
  rw [h, picked_apply]
  congr 1
  funext c
  exact noised_apply _ x (ix2 r c)

end Cert.KernelIdeal.Block
-- ==== Proof.KernelValue.lean ====
/- The array that the kernel's run leaves: the sample of the logits, block by block. -/
module

public import proofs.«01_k».proof.Proof.Gen.KernelIdeal.Value
public import proofs.«01_k».proof.Proof.KernelBlock

@[expose] public section

noncomputable section

namespace Cert.KernelIdeal.Block

open Idealize.ShloMosaic Idealize.ShloMosaic.TcCoe Idealize.SL.Sem Cert.Word Cert.Target
open Cert.KernelIdeal Cert.KernelIdeal.Gen Facts₀ Facts

variable (m : (ℓ : Loc nD τ sig) → Buf (Elt Ideal) ℓ) (ρ : Dev nD → PrngReg)

/-- The counter of an entry of block `t` is the row-major position of the entry in the whole array. -/
theorem counter_eq (t r c : ℕ) :
    BitVec.ofNat 32 t * 800000#32 + BitVec.ofNat 32 r * 100000#32 + BitVec.ofNat 32 c
      = BitVec.ofNat 32 (100000 * (t * 8 + r) + c) := by
  rw [← BitVec.ofNat_mul, ← BitVec.ofNat_mul, ← BitVec.ofNat_add, ← BitVec.ofNat_add]
  congr 1
  ring

/-- The block of point `t` is the `t`-th along the rows and the only one along the columns. -/
theorem index_eq (t : Fin cfg0.grid.N) : win0_1.index t 0 = ((grid0.coords t) 0).val ∧ win0_1.index t 1 = 0 :=
  (by decide +kernel : ∀ t : Fin grid0.N, win0_1.index t 0 = ((grid0.coords t) 0).val ∧ win0_1.index t 1 = 0) t

/-- Where an entry of the block of point `t` sits in the array. -/
theorem place (t : Fin cfg0.grid.N) (y : S8x100000.Idx) :
    (((win0_1.blk t).view.emb y : S128x100000.Idx) 0).val = ((grid0.coords t) 0).val * 8 + (y 0).val
      ∧ (((win0_1.blk t).view.emb y : S128x100000.Idx) 1).val = (y 1).val := by
  obtain ⟨h0, h1⟩ := index_eq t
  constructor
  · blk_simp
    rw [h0]
  · blk_simp
    rw [h1, Nat.zero_mul, Nat.zero_add]

/-- The output array after the run is the sample of the logits. -/
theorem final_eq (c : Dev nD) :
    (dats m 0 c).arrAt 1 cfg0.N = (sample (m ((c : Thread nD τ).loc main_arg0)) : S128x100000.Idx → EReal) := by
  refine (dats m 0 c).arrAt_eq_of_covers 1 _ (by decide +kernel) fun t hf y => ?_
  blk_simp
  rw [after0_1]
  have e := stored_apply (grid0.coords t) (iblk m c 0 t) (y 0) (y 1)
  have hy : (ix2 (y 0) (y 1) : S8x100000.Idx) = y := by
    funext a
    match a with
    | ⟨0, _⟩ => rfl
    | ⟨1, _⟩ => rfl
  rw [hy] at e
  refine e.trans ?_
  unfold sample
  have p := place t y
  have hc : ((win0_1.blk t).view.emb y : S128x100000.Idx) 1 = y 1 := Fin.ext p.2
  rw [hc]
  refine congrArg (fun f : Fin 100000 → EReal => mark f (y 1)) (funext fun k => ?_)
  unfold noisyRow
  have q := place t (ix2 (y 0) k)
  have hk : ((win0_1.blk t).view.emb (ix2 (y 0) k) : S128x100000.Idx)
      = ix2 (((win0_1.blk t).view.emb y : S128x100000.Idx) 0) k := by
    funext a
    match a with
    | ⟨0, _⟩ => exact Fin.ext (q.1.trans p.1.symm)
    | ⟨1, _⟩ => exact Fin.ext q.2
  have hx : iblk m c 0 t (ix2 (y 0) k) = m ((c : Thread nD τ).loc main_arg0) ((win0_1.blk t).view.emb (ix2 (y 0) k)) := rfl
  have hn : Words.counter (grid0.coords t) (ix2 (y 0) k)
      = BitVec.ofNat 32 (100000 * (((win0_1.blk t).view.emb y : S128x100000.Idx) 0).val + k.val) := by
    rw [p.1]
    exact counter_eq _ _ _
  rw [hn, hx, hk]
  generalize Noise.gumbel _ = g
  rfl

/-- Every run of the kernel ends with the sample of the logits in the result and the logits as they were. -/
theorem run_sample : θ_run defs (onTc (τ := τ) (main (F := Ideal))) ⟨m, fun _ => 0, ρ⟩ fun r => ∀ c : Dev nD,
      r.2.mem ((c : Thread nD τ).loc main_v0) = (sample (m ((c : Thread nD τ).loc main_arg0)) : S128x100000.Idx → EReal)
      ∧ r.2.mem ((c : Thread nD τ).loc main_arg0) = m ((c : Thread nD τ).loc main_arg0) :=
  (θ_run defs _ _).mono (fun r h c => ⟨(h c).1.trans (final_eq m c), (h c).2⟩) (Value.run_blocks m ρ)

end Cert.KernelIdeal.Block
-- ==== Proof.Line.lean ====
/- Reading a straight line of host operations over typed references: `rd V t` is what the buffer of `t` holds, and one
   lemma per builder says what it holds after an operation, at the operation's own result and anywhere else. -/
module

public import Idealize.ShloMosaic.Lib.StableHlo.Run
public import Idealize.ShloMosaic.Lib.Pipeline.Frame

@[expose] public section

noncomputable section

namespace Cert.Line

open Idealize.ShloMosaic Idealize.ShloMosaic.StableHlo

variable {τ : Topo} {sig : RefSig} {Val : EltTy → Type} {T Ta Tb Tc Te : BufTy}

/-- The contents of a typed reference's buffer, at the reference's type. -/
def rd (V : Valuation τ sig Val) (t : TRef sig T) : T.Contents Val := t.ofBuf (V (Proc.devRef .tc t.ref))

/-- An operation that writes one buffer leaves what another reference reads. -/
theorem rd_ne (op : HloOp τ sig Val) (V : Valuation τ sig Val) (y : Ref sig .tc) (t : TRef sig T)
    (hw : op.writes = {Proc.devRef (τ := τ) .tc y}) (h : t.ref ≠ y) : rd (op.result V) t = rd V t := by
  unfold rd
  rw [result_of_writes_ne op V y t.ref hw h]

/-- A constant written to a reference. -/
def nul (y : TRef sig T) (v : T.Contents Val) : HloOp τ sig Val := TRef.nullary y v

/-- An operation of one operand. -/
def una (a : TRef sig Ta) (y : TRef sig T) (f : Ta.Contents Val → T.Contents Val) : HloOp τ sig Val := TRef.unary a y f

/-- An operation of two operands. -/
def bin (a : TRef sig Ta) (b : TRef sig Tb) (y : TRef sig T) (f : Ta.Contents Val → Tb.Contents Val → T.Contents Val) :
    HloOp τ sig Val := TRef.binary a b y f

/-- An operation of four operands. -/
def qua (a : TRef sig Ta) (b : TRef sig Tb) (c : TRef sig Tc) (e : TRef sig Te) (y : TRef sig T)
    (f : Ta.Contents Val → Tb.Contents Val → Tc.Contents Val → Te.Contents Val → T.Contents Val) : HloOp τ sig Val :=
  TRef.quaternary a b c e y f

/-- A reshape between two buffers of one element type. -/
def rsh {s s' : Shape} {e : EltTy} (a : TRef sig ⟨s, e⟩) (y : TRef sig ⟨s', e⟩) (hn : s.ShapeCasts s') :
    HloOp τ sig Val := TRef.reshape a y (rfl : e = e) hn

/-- A constant, at its result. -/
theorem rd_nul (y : TRef sig T) (v : T.Contents Val) (V : Valuation τ sig Val) : rd ((nul y v).result V) y = v := by
  unfold rd nul TRef.nullary
  rw [nullary_result, TRef.ofBuf_toBuf]

/-- An operation of one operand, at its result. -/
theorem rd_una (a : TRef sig Ta) (y : TRef sig T) (f : Ta.Contents Val → T.Contents Val) (V : Valuation τ sig Val) :
    rd ((una a y f).result V) y = f (rd V a) := by
  unfold rd una TRef.unary
  rw [unary_result, TRef.ofBuf_toBuf]

/-- An operation of two operands, at its result. -/
theorem rd_bin (a : TRef sig Ta) (b : TRef sig Tb) (y : TRef sig T)
    (f : Ta.Contents Val → Tb.Contents Val → T.Contents Val) (V : Valuation τ sig Val) :
    rd ((bin a b y f).result V) y = f (rd V a) (rd V b) := by
  unfold rd bin TRef.binary
  rw [binary_result, TRef.ofBuf_toBuf]

/-- An operation of four operands, at its result. -/
theorem rd_qua (a : TRef sig Ta) (b : TRef sig Tb) (c : TRef sig Tc) (e : TRef sig Te) (y : TRef sig T)
    (f : Ta.Contents Val → Tb.Contents Val → Tc.Contents Val → Te.Contents Val → T.Contents Val)
    (V : Valuation τ sig Val) :
    rd ((qua a b c e y f).result V) y = f (rd V a) (rd V b) (rd V c) (rd V e) := by
  unfold rd qua TRef.quaternary
  rw [quaternary_result, TRef.ofBuf_toBuf]

/-- A shape cast carried across equalities of buffer types. -/
theorem cast_reshape {s s' : Shape} {e : EltTy} (Tx Ty : BufTy) (hx : Tx = ⟨s, e⟩) (hy : Ty = ⟨s', e⟩)
    (he : Tx.elt = Ty.elt) (hn : Tx.shape.ShapeCasts Ty.shape) (hn' : s.ShapeCasts s') (A : Tx.Contents Val) :
    cast (congrArg (fun U : BufTy => U.Contents Val) hy) (fun i => he ▸ shapeCast Ty.shape A hn i)
      = shapeCast s' (cast (congrArg (fun U : BufTy => U.Contents Val) hx) A) hn' := by
  subst hx hy
  rfl

/-- A reshape, at its result: the shape cast. -/
theorem rd_rsh {s s' : Shape} {e : EltTy} (a : TRef sig ⟨s, e⟩) (y : TRef sig ⟨s', e⟩) (hn : s.ShapeCasts s')
    (V : Valuation τ sig Val) : rd ((rsh a y hn).result V) y = shapeCast s' (rd V a) hn := by
  unfold rd rsh TRef.reshape
  rw [reshape_result]
  exact cast_reshape _ _ a.ty_eq y.ty_eq _ _ _ _

/-- A constant, at another reference. -/
theorem rd_nul_ne (y : TRef sig T) (v : T.Contents Val) (V : Valuation τ sig Val) (t : TRef sig Te)
    (h : t.ref ≠ y.ref) : rd ((nul y v).result V) t = rd V t := rd_ne _ V y.ref t rfl h

/-- An operation of one operand, at another reference. -/
theorem rd_una_ne (a : TRef sig Ta) (y : TRef sig T) (f : Ta.Contents Val → T.Contents Val)
    (V : Valuation τ sig Val) (t : TRef sig Te) (h : t.ref ≠ y.ref) :
    rd ((una a y f).result V) t = rd V t := rd_ne _ V y.ref t rfl h

/-- An operation of two operands, at another reference. -/
theorem rd_bin_ne (a : TRef sig Ta) (b : TRef sig Tb) (y : TRef sig T)
    (f : Ta.Contents Val → Tb.Contents Val → T.Contents Val) (V : Valuation τ sig Val) (t : TRef sig Te)
    (h : t.ref ≠ y.ref) : rd ((bin a b y f).result V) t = rd V t := rd_ne _ V y.ref t rfl h

/-- An operation of four operands, at another reference. -/
theorem rd_qua_ne {Td : BufTy} (a : TRef sig Ta) (b : TRef sig Tb) (c : TRef sig Tc) (e : TRef sig Te)
    (y : TRef sig T) (f : Ta.Contents Val → Tb.Contents Val → Tc.Contents Val → Te.Contents Val → T.Contents Val)
    (V : Valuation τ sig Val) (t : TRef sig Td) (h : t.ref ≠ y.ref) :
    rd ((qua a b c e y f).result V) t = rd V t := rd_ne _ V y.ref t rfl h

/-- A reshape, at another reference. -/
theorem rd_rsh_ne {s s' : Shape} {e : EltTy} (a : TRef sig ⟨s, e⟩) (y : TRef sig ⟨s', e⟩) (hn : s.ShapeCasts s')
    (V : Valuation τ sig Val) (t : TRef sig Te) (h : t.ref ≠ y.ref) :
    rd ((rsh a y hn).result V) t = rd V t := rd_ne _ V y.ref t rfl h

end Cert.Line
-- ==== Proof.RefRefs.lean ====
/- Named typed references for the buffers of the reference's values. -/
module

public import proofs.«01_k».proof.ReferenceIdeal
public import proofs.«01_k».proof.Proof.Line
public import Idealize.ShloMosaic.PureOps.Ideal
public import proofs.«01_k».proof.Proof.Word

@[expose] public section

noncomputable section

namespace Cert.ReferenceIdeal.Line

open Idealize.ShloMosaic Idealize.ShloMosaic.StableHlo Cert.Line
open Cert.ReferenceIdeal Facts₀ Facts

/-! ## The references: `m_` of @main, `u_` of the uniform draw, `t_` of the block function, `g_` of the argmax, `h_` of the one-hot -/

def m_arg0 : TRef sig ⟨S128x100000, .f32⟩ := .of main_arg0
def m_c : TRef sig ⟨S_, .i32⟩ := .of main_c
def m_c_0 : TRef sig ⟨S_, .i32⟩ := .of main_c_0
def m_v0 : TRef sig ⟨S_, .i32⟩ := .of main_v0
def m_v1 : TRef sig ⟨S_, .i32⟩ := .of main_v1
def m_v2 : TRef sig ⟨S1, .i32⟩ := .of main_v2
def m_c_1 : TRef sig ⟨S_, .i32⟩ := .of main_c_1
def m_v3 : TRef sig ⟨S_, .i32⟩ := .of main_v3
def m_v4 : TRef sig ⟨S_, .i32⟩ := .of main_v4
def m_v5 : TRef sig ⟨S1, .i32⟩ := .of main_v5
def m_v6 : TRef sig ⟨S2, .i32⟩ := .of main_v6
def m_cst : TRef sig ⟨S_, .f32⟩ := .of main_cst
def m_cst_2 : TRef sig ⟨S_, .f32⟩ := .of main_cst_2
def u_v0 : TRef sig ⟨S_, .f32⟩ := .of main_call0_v0
def u_v1 : TRef sig ⟨S_, .f32⟩ := .of main_call0_v1
def u_v2 : TRef sig ⟨S1x1, .f32⟩ := .of main_call0_v2
def u_v3 : TRef sig ⟨S1x1, .f32⟩ := .of main_call0_v3
def u_v4 : TRef sig ⟨S1, .i32⟩ := .of main_call0_v4
def u_v5 : TRef sig ⟨S_, .i32⟩ := .of main_call0_v5
def u_v6 : TRef sig ⟨S1, .i32⟩ := .of main_call0_v6
def u_v7 : TRef sig ⟨S_, .i32⟩ := .of main_call0_v7
def u_v8 : TRef sig ⟨S128x100000, .i64⟩ := .of main_call0_v8
def u_v9 : TRef sig ⟨S128x100000, .i64⟩ := .of main_call0_v9
def u_c : TRef sig ⟨S_, .i64⟩ := .of main_call0_c
def u_v10 : TRef sig ⟨S128x100000, .i64⟩ := .of main_call0_v10
def u_v11 : TRef sig ⟨S128x100000, .i64⟩ := .of main_call0_v11
def u_c_0 : TRef sig ⟨S_, .i64⟩ := .of main_call0_c_0
def u_v12 : TRef sig ⟨S128x100000, .i64⟩ := .of main_call0_v12
def u_v13 : TRef sig ⟨S128x100000, .i64⟩ := .of main_call0_v13
def u_v14 : TRef sig ⟨S128x100000, .i64⟩ := .of main_call0_v14
def u_c_1 : TRef sig ⟨S_, .i64⟩ := .of main_call0_c_1
def u_v15 : TRef sig ⟨S128x100000, .i64⟩ := .of main_call0_v15
def u_v16 : TRef sig ⟨S128x100000, .i64⟩ := .of main_call0_v16
def u_v17 : TRef sig ⟨S128x100000, .i32⟩ := .of main_call0_v17
def u_v18 : TRef sig ⟨S128x100000, .i32⟩ := .of main_call0_v18
def t_v0 : TRef sig ⟨S_, .i32⟩ := .of main_call0_call0_v0
def t_c : TRef sig ⟨S_, .i32⟩ := .of main_call0_call0_c
def t_v1 : TRef sig ⟨S_, .i32⟩ := .of main_call0_call0_v1
def t_v2 : TRef sig ⟨S128x100000, .i32⟩ := .of main_call0_call0_v2
def t_v3 : TRef sig ⟨S128x100000, .i32⟩ := .of main_call0_call0_v3
def t_v4 : TRef sig ⟨S128x100000, .i32⟩ := .of main_call0_call0_v4
def t_v5 : TRef sig ⟨S128x100000, .i32⟩ := .of main_call0_call0_v5
def t_v6 : TRef sig ⟨S128x100000, .i32⟩ := .of main_call0_call0_v6
def t_c_0 : TRef sig ⟨S_, .i32⟩ := .of main_call0_call0_c_0
def t_v7 : TRef sig ⟨S128x100000, .i32⟩ := .of main_call0_call0_v7
def t_v8 : TRef sig ⟨S128x100000, .i32⟩ := .of main_call0_call0_v8
def t_c_1 : TRef sig ⟨S_, .i32⟩ := .of main_call0_call0_c_1
def t_v9 : TRef sig ⟨S128x100000, .i32⟩ := .of main_call0_call0_v9
def t_v10 : TRef sig ⟨S128x100000, .i32⟩ := .of main_call0_call0_v10
def t_v11 : TRef sig ⟨S128x100000, .i32⟩ := .of main_call0_call0_v11
def t_v12 : TRef sig ⟨S128x100000, .i32⟩ := .of main_call0_call0_v12
def t_v13 : TRef sig ⟨S128x100000, .i32⟩ := .of main_call0_call0_v13
def t_c_2 : TRef sig ⟨S_, .i32⟩ := .of main_call0_call0_c_2
def t_v14 : TRef sig ⟨S128x100000, .i32⟩ := .of main_call0_call0_v14
def t_v15 : TRef sig ⟨S128x100000, .i32⟩ := .of main_call0_call0_v15
def t_c_3 : TRef sig ⟨S_, .i32⟩ := .of main_call0_call0_c_3
def t_v16 : TRef sig ⟨S128x100000, .i32⟩ := .of main_call0_call0_v16
def t_v17 : TRef sig ⟨S128x100000, .i32⟩ := .of main_call0_call0_v17
def t_v18 : TRef sig ⟨S128x100000, .i32⟩ := .of main_call0_call0_v18
def t_v19 : TRef sig ⟨S128x100000, .i32⟩ := .of main_call0_call0_v19
def t_v20 : TRef sig ⟨S128x100000, .i32⟩ := .of main_call0_call0_v20
def t_c_4 : TRef sig ⟨S_, .i32⟩ := .of main_call0_call0_c_4
def t_v21 : TRef sig ⟨S128x100000, .i32⟩ := .of main_call0_call0_v21
def t_v22 : TRef sig ⟨S128x100000, .i32⟩ := .of main_call0_call0_v22
def t_c_5 : TRef sig ⟨S_, .i32⟩ := .of main_call0_call0_c_5
def t_v23 : TRef sig ⟨S128x100000, .i32⟩ := .of main_call0_call0_v23
def t_v24 : TRef sig ⟨S128x100000, .i32⟩ := .of main_call0_call0_v24
def t_v25 : TRef sig ⟨S128x100000, .i32⟩ := .of main_call0_call0_v25
def t_v26 : TRef sig ⟨S128x100000, .i32⟩ := .of main_call0_call0_v26
def t_v27 : TRef sig ⟨S128x100000, .i32⟩ := .of main_call0_call0_v27
def t_c_6 : TRef sig ⟨S_, .i32⟩ := .of main_call0_call0_c_6
def t_v28 : TRef sig ⟨S128x100000, .i32⟩ := .of main_call0_call0_v28
def t_v29 : TRef sig ⟨S128x100000, .i32⟩ := .of main_call0_call0_v29
def t_c_7 : TRef sig ⟨S_, .i32⟩ := .of main_call0_call0_c_7
def t_v30 : TRef sig ⟨S128x100000, .i32⟩ := .of main_call0_call0_v30
def t_v31 : TRef sig ⟨S128x100000, .i32⟩ := .of main_call0_call0_v31
def t_v32 : TRef sig ⟨S128x100000, .i32⟩ := .of main_call0_call0_v32
def t_v33 : TRef sig ⟨S128x100000, .i32⟩ := .of main_call0_call0_v33
def t_v34 : TRef sig ⟨S128x100000, .i32⟩ := .of main_call0_call0_v34
def t_v35 : TRef sig ⟨S128x100000, .i32⟩ := .of main_call0_call0_v35
def t_v36 : TRef sig ⟨S128x100000, .i32⟩ := .of main_call0_call0_v36
def t_v37 : TRef sig ⟨S128x100000, .i32⟩ := .of main_call0_call0_v37
def t_c_8 : TRef sig ⟨S_, .i32⟩ := .of main_call0_call0_c_8
def t_v38 : TRef sig ⟨S128x100000, .i32⟩ := .of main_call0_call0_v38
def t_v39 : TRef sig ⟨S128x100000, .i32⟩ := .of main_call0_call0_v39
def t_v40 : TRef sig ⟨S128x100000, .i32⟩ := .of main_call0_call0_v40
def t_c_9 : TRef sig ⟨S_, .i32⟩ := .of main_call0_call0_c_9
def t_v41 : TRef sig ⟨S128x100000, .i32⟩ := .of main_call0_call0_v41
def t_v42 : TRef sig ⟨S128x100000, .i32⟩ := .of main_call0_call0_v42
def t_c_10 : TRef sig ⟨S_, .i32⟩ := .of main_call0_call0_c_10
def t_v43 : TRef sig ⟨S128x100000, .i32⟩ := .of main_call0_call0_v43
def t_v44 : TRef sig ⟨S128x100000, .i32⟩ := .of main_call0_call0_v44
def t_v45 : TRef sig ⟨S128x100000, .i32⟩ := .of main_call0_call0_v45
def t_v46 : TRef sig ⟨S128x100000, .i32⟩ := .of main_call0_call0_v46
def t_v47 : TRef sig ⟨S128x100000, .i32⟩ := .of main_call0_call0_v47
def t_c_11 : TRef sig ⟨S_, .i32⟩ := .of main_call0_call0_c_11
def t_v48 : TRef sig ⟨S128x100000, .i32⟩ := .of main_call0_call0_v48
def t_v49 : TRef sig ⟨S128x100000, .i32⟩ := .of main_call0_call0_v49
def t_c_12 : TRef sig ⟨S_, .i32⟩ := .of main_call0_call0_c_12
def t_v50 : TRef sig ⟨S128x100000, .i32⟩ := .of main_call0_call0_v50
def t_v51 : TRef sig ⟨S128x100000, .i32⟩ := .of main_call0_call0_v51
def t_v52 : TRef sig ⟨S128x100000, .i32⟩ := .of main_call0_call0_v52
def t_v53 : TRef sig ⟨S128x100000, .i32⟩ := .of main_call0_call0_v53
def t_v54 : TRef sig ⟨S128x100000, .i32⟩ := .of main_call0_call0_v54
def t_c_13 : TRef sig ⟨S_, .i32⟩ := .of main_call0_call0_c_13
def t_v55 : TRef sig ⟨S128x100000, .i32⟩ := .of main_call0_call0_v55
def t_v56 : TRef sig ⟨S128x100000, .i32⟩ := .of main_call0_call0_v56
def t_c_14 : TRef sig ⟨S_, .i32⟩ := .of main_call0_call0_c_14
def t_v57 : TRef sig ⟨S128x100000, .i32⟩ := .of main_call0_call0_v57
def t_v58 : TRef sig ⟨S128x100000, .i32⟩ := .of main_call0_call0_v58
def t_v59 : TRef sig ⟨S128x100000, .i32⟩ := .of main_call0_call0_v59
def t_v60 : TRef sig ⟨S128x100000, .i32⟩ := .of main_call0_call0_v60
def t_v61 : TRef sig ⟨S128x100000, .i32⟩ := .of main_call0_call0_v61
def t_c_15 : TRef sig ⟨S_, .i32⟩ := .of main_call0_call0_c_15
def t_v62 : TRef sig ⟨S128x100000, .i32⟩ := .of main_call0_call0_v62
def t_v63 : TRef sig ⟨S128x100000, .i32⟩ := .of main_call0_call0_v63
def t_c_16 : TRef sig ⟨S_, .i32⟩ := .of main_call0_call0_c_16
def t_v64 : TRef sig ⟨S128x100000, .i32⟩ := .of main_call0_call0_v64
def t_v65 : TRef sig ⟨S128x100000, .i32⟩ := .of main_call0_call0_v65
def t_v66 : TRef sig ⟨S128x100000, .i32⟩ := .of main_call0_call0_v66
def t_v67 : TRef sig ⟨S128x100000, .i32⟩ := .of main_call0_call0_v67
def t_v68 : TRef sig ⟨S128x100000, .i32⟩ := .of main_call0_call0_v68
def t_v69 : TRef sig ⟨S128x100000, .i32⟩ := .of main_call0_call0_v69
def t_v70 : TRef sig ⟨S128x100000, .i32⟩ := .of main_call0_call0_v70
def t_v71 : TRef sig ⟨S128x100000, .i32⟩ := .of main_call0_call0_v71
def t_c_17 : TRef sig ⟨S_, .i32⟩ := .of main_call0_call0_c_17
def t_v72 : TRef sig ⟨S128x100000, .i32⟩ := .of main_call0_call0_v72
def t_v73 : TRef sig ⟨S128x100000, .i32⟩ := .of main_call0_call0_v73
def t_v74 : TRef sig ⟨S128x100000, .i32⟩ := .of main_call0_call0_v74
def t_c_18 : TRef sig ⟨S_, .i32⟩ := .of main_call0_call0_c_18
def t_v75 : TRef sig ⟨S128x100000, .i32⟩ := .of main_call0_call0_v75
def t_v76 : TRef sig ⟨S128x100000, .i32⟩ := .of main_call0_call0_v76
def t_c_19 : TRef sig ⟨S_, .i32⟩ := .of main_call0_call0_c_19
def t_v77 : TRef sig ⟨S128x100000, .i32⟩ := .of main_call0_call0_v77
def t_v78 : TRef sig ⟨S128x100000, .i32⟩ := .of main_call0_call0_v78
def t_v79 : TRef sig ⟨S128x100000, .i32⟩ := .of main_call0_call0_v79
def t_v80 : TRef sig ⟨S128x100000, .i32⟩ := .of main_call0_call0_v80
def t_v81 : TRef sig ⟨S128x100000, .i32⟩ := .of main_call0_call0_v81
def t_c_20 : TRef sig ⟨S_, .i32⟩ := .of main_call0_call0_c_20
def t_v82 : TRef sig ⟨S128x100000, .i32⟩ := .of main_call0_call0_v82
def t_v83 : TRef sig ⟨S128x100000, .i32⟩ := .of main_call0_call0_v83
def t_c_21 : TRef sig ⟨S_, .i32⟩ := .of main_call0_call0_c_21
def t_v84 : TRef sig ⟨S128x100000, .i32⟩ := .of main_call0_call0_v84
def t_v85 : TRef sig ⟨S128x100000, .i32⟩ := .of main_call0_call0_v85
def t_v86 : TRef sig ⟨S128x100000, .i32⟩ := .of main_call0_call0_v86
def t_v87 : TRef sig ⟨S128x100000, .i32⟩ := .of main_call0_call0_v87
def t_v88 : TRef sig ⟨S128x100000, .i32⟩ := .of main_call0_call0_v88
def t_c_22 : TRef sig ⟨S_, .i32⟩ := .of main_call0_call0_c_22
def t_v89 : TRef sig ⟨S128x100000, .i32⟩ := .of main_call0_call0_v89
def t_v90 : TRef sig ⟨S128x100000, .i32⟩ := .of main_call0_call0_v90
def t_c_23 : TRef sig ⟨S_, .i32⟩ := .of main_call0_call0_c_23
def t_v91 : TRef sig ⟨S128x100000, .i32⟩ := .of main_call0_call0_v91
def t_v92 : TRef sig ⟨S128x100000, .i32⟩ := .of main_call0_call0_v92
def t_v93 : TRef sig ⟨S128x100000, .i32⟩ := .of main_call0_call0_v93
def t_v94 : TRef sig ⟨S128x100000, .i32⟩ := .of main_call0_call0_v94
def t_v95 : TRef sig ⟨S128x100000, .i32⟩ := .of main_call0_call0_v95
def t_c_24 : TRef sig ⟨S_, .i32⟩ := .of main_call0_call0_c_24
def t_v96 : TRef sig ⟨S128x100000, .i32⟩ := .of main_call0_call0_v96
def t_v97 : TRef sig ⟨S128x100000, .i32⟩ := .of main_call0_call0_v97
def t_c_25 : TRef sig ⟨S_, .i32⟩ := .of main_call0_call0_c_25
def t_v98 : TRef sig ⟨S128x100000, .i32⟩ := .of main_call0_call0_v98
def t_v99 : TRef sig ⟨S128x100000, .i32⟩ := .of main_call0_call0_v99
def t_v100 : TRef sig ⟨S128x100000, .i32⟩ := .of main_call0_call0_v100
def t_v101 : TRef sig ⟨S128x100000, .i32⟩ := .of main_call0_call0_v101
def t_v102 : TRef sig ⟨S128x100000, .i32⟩ := .of main_call0_call0_v102
def t_v103 : TRef sig ⟨S128x100000, .i32⟩ := .of main_call0_call0_v103
def t_v104 : TRef sig ⟨S128x100000, .i32⟩ := .of main_call0_call0_v104
def t_v105 : TRef sig ⟨S128x100000, .i32⟩ := .of main_call0_call0_v105
def t_c_26 : TRef sig ⟨S_, .i32⟩ := .of main_call0_call0_c_26
def t_v106 : TRef sig ⟨S128x100000, .i32⟩ := .of main_call0_call0_v106
def t_v107 : TRef sig ⟨S128x100000, .i32⟩ := .of main_call0_call0_v107
def t_v108 : TRef sig ⟨S128x100000, .i32⟩ := .of main_call0_call0_v108
def t_c_27 : TRef sig ⟨S_, .i32⟩ := .of main_call0_call0_c_27
def t_v109 : TRef sig ⟨S128x100000, .i32⟩ := .of main_call0_call0_v109
def t_v110 : TRef sig ⟨S128x100000, .i32⟩ := .of main_call0_call0_v110
def t_c_28 : TRef sig ⟨S_, .i32⟩ := .of main_call0_call0_c_28
def t_v111 : TRef sig ⟨S128x100000, .i32⟩ := .of main_call0_call0_v111
def t_v112 : TRef sig ⟨S128x100000, .i32⟩ := .of main_call0_call0_v112
def t_v113 : TRef sig ⟨S128x100000, .i32⟩ := .of main_call0_call0_v113
def t_v114 : TRef sig ⟨S128x100000, .i32⟩ := .of main_call0_call0_v114
def t_v115 : TRef sig ⟨S128x100000, .i32⟩ := .of main_call0_call0_v115
def t_c_29 : TRef sig ⟨S_, .i32⟩ := .of main_call0_call0_c_29
def t_v116 : TRef sig ⟨S128x100000, .i32⟩ := .of main_call0_call0_v116
def t_v117 : TRef sig ⟨S128x100000, .i32⟩ := .of main_call0_call0_v117
def t_c_30 : TRef sig ⟨S_, .i32⟩ := .of main_call0_call0_c_30
def t_v118 : TRef sig ⟨S128x100000, .i32⟩ := .of main_call0_call0_v118
def t_v119 : TRef sig ⟨S128x100000, .i32⟩ := .of main_call0_call0_v119
def t_v120 : TRef sig ⟨S128x100000, .i32⟩ := .of main_call0_call0_v120
def t_v121 : TRef sig ⟨S128x100000, .i32⟩ := .of main_call0_call0_v121
def t_v122 : TRef sig ⟨S128x100000, .i32⟩ := .of main_call0_call0_v122
def t_c_31 : TRef sig ⟨S_, .i32⟩ := .of main_call0_call0_c_31
def t_v123 : TRef sig ⟨S128x100000, .i32⟩ := .of main_call0_call0_v123
def t_v124 : TRef sig ⟨S128x100000, .i32⟩ := .of main_call0_call0_v124
def t_c_32 : TRef sig ⟨S_, .i32⟩ := .of main_call0_call0_c_32
def t_v125 : TRef sig ⟨S128x100000, .i32⟩ := .of main_call0_call0_v125
def t_v126 : TRef sig ⟨S128x100000, .i32⟩ := .of main_call0_call0_v126
def t_v127 : TRef sig ⟨S128x100000, .i32⟩ := .of main_call0_call0_v127
def t_v128 : TRef sig ⟨S128x100000, .i32⟩ := .of main_call0_call0_v128
def t_v129 : TRef sig ⟨S128x100000, .i32⟩ := .of main_call0_call0_v129
def t_c_33 : TRef sig ⟨S_, .i32⟩ := .of main_call0_call0_c_33
def t_v130 : TRef sig ⟨S128x100000, .i32⟩ := .of main_call0_call0_v130
def t_v131 : TRef sig ⟨S128x100000, .i32⟩ := .of main_call0_call0_v131
def t_c_34 : TRef sig ⟨S_, .i32⟩ := .of main_call0_call0_c_34
def t_v132 : TRef sig ⟨S128x100000, .i32⟩ := .of main_call0_call0_v132
def t_v133 : TRef sig ⟨S128x100000, .i32⟩ := .of main_call0_call0_v133
def t_v134 : TRef sig ⟨S128x100000, .i32⟩ := .of main_call0_call0_v134
def t_v135 : TRef sig ⟨S128x100000, .i32⟩ := .of main_call0_call0_v135
def t_v136 : TRef sig ⟨S128x100000, .i32⟩ := .of main_call0_call0_v136
def t_v137 : TRef sig ⟨S128x100000, .i32⟩ := .of main_call0_call0_v137
def t_v138 : TRef sig ⟨S128x100000, .i32⟩ := .of main_call0_call0_v138
def t_v139 : TRef sig ⟨S128x100000, .i32⟩ := .of main_call0_call0_v139
def t_c_35 : TRef sig ⟨S_, .i32⟩ := .of main_call0_call0_c_35
def t_v140 : TRef sig ⟨S128x100000, .i32⟩ := .of main_call0_call0_v140
def t_v141 : TRef sig ⟨S128x100000, .i32⟩ := .of main_call0_call0_v141
def t_v142 : TRef sig ⟨S128x100000, .i32⟩ := .of main_call0_call0_v142
def t_c_36 : TRef sig ⟨S_, .i32⟩ := .of main_call0_call0_c_36
def t_v143 : TRef sig ⟨S128x100000, .i32⟩ := .of main_call0_call0_v143
def t_v144 : TRef sig ⟨S128x100000, .i32⟩ := .of main_call0_call0_v144
def t_c_37 : TRef sig ⟨S_, .i32⟩ := .of main_call0_call0_c_37
def t_v145 : TRef sig ⟨S128x100000, .i32⟩ := .of main_call0_call0_v145
def t_v146 : TRef sig ⟨S128x100000, .i32⟩ := .of main_call0_call0_v146
def t_v147 : TRef sig ⟨S128x100000, .i32⟩ := .of main_call0_call0_v147
def t_v148 : TRef sig ⟨S128x100000, .i32⟩ := .of main_call0_call0_v148
def t_v149 : TRef sig ⟨S128x100000, .i32⟩ := .of main_call0_call0_v149
def t_c_38 : TRef sig ⟨S_, .i32⟩ := .of main_call0_call0_c_38
def t_v150 : TRef sig ⟨S128x100000, .i32⟩ := .of main_call0_call0_v150
def t_v151 : TRef sig ⟨S128x100000, .i32⟩ := .of main_call0_call0_v151
def t_c_39 : TRef sig ⟨S_, .i32⟩ := .of main_call0_call0_c_39
def t_v152 : TRef sig ⟨S128x100000, .i32⟩ := .of main_call0_call0_v152
def t_v153 : TRef sig ⟨S128x100000, .i32⟩ := .of main_call0_call0_v153
def t_v154 : TRef sig ⟨S128x100000, .i32⟩ := .of main_call0_call0_v154
def t_v155 : TRef sig ⟨S128x100000, .i32⟩ := .of main_call0_call0_v155
def t_v156 : TRef sig ⟨S128x100000, .i32⟩ := .of main_call0_call0_v156
def t_c_40 : TRef sig ⟨S_, .i32⟩ := .of main_call0_call0_c_40
def t_v157 : TRef sig ⟨S128x100000, .i32⟩ := .of main_call0_call0_v157
def t_v158 : TRef sig ⟨S128x100000, .i32⟩ := .of main_call0_call0_v158
def t_c_41 : TRef sig ⟨S_, .i32⟩ := .of main_call0_call0_c_41
def t_v159 : TRef sig ⟨S128x100000, .i32⟩ := .of main_call0_call0_v159
def t_v160 : TRef sig ⟨S128x100000, .i32⟩ := .of main_call0_call0_v160
def t_v161 : TRef sig ⟨S128x100000, .i32⟩ := .of main_call0_call0_v161
def t_v162 : TRef sig ⟨S128x100000, .i32⟩ := .of main_call0_call0_v162
def t_v163 : TRef sig ⟨S128x100000, .i32⟩ := .of main_call0_call0_v163
def t_c_42 : TRef sig ⟨S_, .i32⟩ := .of main_call0_call0_c_42
def t_v164 : TRef sig ⟨S128x100000, .i32⟩ := .of main_call0_call0_v164
def t_v165 : TRef sig ⟨S128x100000, .i32⟩ := .of main_call0_call0_v165
def t_c_43 : TRef sig ⟨S_, .i32⟩ := .of main_call0_call0_c_43
def t_v166 : TRef sig ⟨S128x100000, .i32⟩ := .of main_call0_call0_v166
def t_v167 : TRef sig ⟨S128x100000, .i32⟩ := .of main_call0_call0_v167
def t_v168 : TRef sig ⟨S128x100000, .i32⟩ := .of main_call0_call0_v168
def t_v169 : TRef sig ⟨S128x100000, .i32⟩ := .of main_call0_call0_v169
def t_v170 : TRef sig ⟨S128x100000, .i32⟩ := .of main_call0_call0_v170
def u_v19_0 : TRef sig ⟨S128x100000, .i32⟩ := .of main_call0_v19_0
def t_v172 : TRef sig ⟨S128x100000, .i32⟩ := .of main_call0_call0_v172
def t_v173 : TRef sig ⟨S128x100000, .i32⟩ := .of main_call0_call0_v173
def t_c_44 : TRef sig ⟨S_, .i32⟩ := .of main_call0_call0_c_44
def t_v174 : TRef sig ⟨S128x100000, .i32⟩ := .of main_call0_call0_v174
def u_v19_1 : TRef sig ⟨S128x100000, .i32⟩ := .of main_call0_v19_1
def u_v20 : TRef sig ⟨S128x100000, .i32⟩ := .of main_call0_v20
def u_c_2 : TRef sig ⟨S_, .i32⟩ := .of main_call0_c_2
def u_v21 : TRef sig ⟨S128x100000, .i32⟩ := .of main_call0_v21
def u_v22 : TRef sig ⟨S128x100000, .i32⟩ := .of main_call0_v22
def u_c_3 : TRef sig ⟨S_, .i32⟩ := .of main_call0_c_3
def u_v23 : TRef sig ⟨S128x100000, .i32⟩ := .of main_call0_v23
def u_v24 : TRef sig ⟨S128x100000, .i32⟩ := .of main_call0_v24
def u_v25 : TRef sig ⟨S128x100000, .f32⟩ := .of main_call0_v25
def u_cst : TRef sig ⟨S_, .f32⟩ := .of main_call0_cst
def u_v26 : TRef sig ⟨S128x100000, .f32⟩ := .of main_call0_v26
def u_v27 : TRef sig ⟨S128x100000, .f32⟩ := .of main_call0_v27
def u_v28 : TRef sig ⟨S1x1, .f32⟩ := .of main_call0_v28
def u_v29 : TRef sig ⟨S128x100000, .f32⟩ := .of main_call0_v29
def u_v30 : TRef sig ⟨S128x100000, .f32⟩ := .of main_call0_v30
def u_v31 : TRef sig ⟨S128x100000, .f32⟩ := .of main_call0_v31
def u_v32 : TRef sig ⟨S128x100000, .f32⟩ := .of main_call0_v32
def u_v33 : TRef sig ⟨S128x100000, .f32⟩ := .of main_call0_v33
def m_v7 : TRef sig ⟨S128x100000, .f32⟩ := .of main_v7
def m_cst_3 : TRef sig ⟨S_, .f32⟩ := .of main_cst_3
def m_v8 : TRef sig ⟨S128x100000, .f32⟩ := .of main_v8
def m_v9 : TRef sig ⟨S128x100000, .f32⟩ := .of main_v9
def m_cst_4 : TRef sig ⟨S_, .f32⟩ := .of main_cst_4
def m_v10 : TRef sig ⟨S128x100000, .f32⟩ := .of main_v10
def m_v11 : TRef sig ⟨S128x100000, .f32⟩ := .of main_v11
def m_v12 : TRef sig ⟨S128x100000, .f32⟩ := .of main_v12
def m_v13 : TRef sig ⟨S128x100000, .f32⟩ := .of main_v13
def m_v14 : TRef sig ⟨S128x100000, .f32⟩ := .of main_v14
def m_v15 : TRef sig ⟨S128x100000, .f32⟩ := .of main_v15
def m_v16 : TRef sig ⟨S128x100000, .f32⟩ := .of main_v16
def m_cst_5 : TRef sig ⟨S_, .f32⟩ := .of main_cst_5
def m_v17 : TRef sig ⟨S128x100000, .f32⟩ := .of main_v17
def m_v18 : TRef sig ⟨S128x100000, .f32⟩ := .of main_v18
def m_cst_6 : TRef sig ⟨S_, .f32⟩ := .of main_cst_6
def m_v19 : TRef sig ⟨S128, .f32⟩ := .of main_v19
def m_cst_7 : TRef sig ⟨S_, .f32⟩ := .of main_cst_7
def m_v20 : TRef sig ⟨S128, .f32⟩ := .of main_v20
def m_v21 : TRef sig ⟨S128, .f32⟩ := .of main_v21
def m_v22 : TRef sig ⟨S128x1, .f32⟩ := .of main_v22
def m_v23 : TRef sig ⟨S128x100000, .f32⟩ := .of main_v23
def m_v24 : TRef sig ⟨S128x100000, .f32⟩ := .of main_v24
def m_v25 : TRef sig ⟨S128x100000, .f32⟩ := .of main_v25
def m_cst_8 : TRef sig ⟨S_, .f32⟩ := .of main_cst_8
def m_v26 : TRef sig ⟨S128, .f32⟩ := .of main_v26
def m_v27 : TRef sig ⟨S128x1, .f32⟩ := .of main_v27
def m_v28 : TRef sig ⟨S128x100000, .f32⟩ := .of main_v28
def m_v29 : TRef sig ⟨S128x100000, .f32⟩ := .of main_v29
def g_v0 : TRef sig ⟨S128x100000, .i32⟩ := .of main_call1_v0
def g_cst : TRef sig ⟨S_, .f32⟩ := .of main_call1_cst
def g_c : TRef sig ⟨S_, .i32⟩ := .of main_call1_c
def g_v1_0 : TRef sig ⟨S128, .f32⟩ := .of main_call1_v1_0
def m_v30 : TRef sig ⟨S128, .i32⟩ := .of main_v30
def h_v0 : TRef sig ⟨S128x1, .i32⟩ := .of main_call2_v0
def h_v1 : TRef sig ⟨S1x100000, .i32⟩ := .of main_call2_v1
def h_v2 : TRef sig ⟨S128x100000, .i32⟩ := .of main_call2_v2
def h_v3 : TRef sig ⟨S128x100000, .i32⟩ := .of main_call2_v3
def h_v4 : TRef sig ⟨S128x100000, .i1⟩ := .of main_call2_v4
def m_v31 : TRef sig ⟨S128x100000, .f32⟩ := .of main_v31
def m_v32 : TRef sig ⟨S128x100000, .f32⟩ := .of main_v32
def m_v33 : TRef sig ⟨S128x100000, .f32⟩ := .of main_v33

end Cert.ReferenceIdeal.Line
-- ==== Proof.RefOps.lean ====
/- The reference's host operations as lists, in order: the key words, the counters, the block function's rounds and key
   additions, the uniform numbers, the noise, the softmax, the argmax and the one-hot rows. -/
module

public import proofs.«01_k».proof.ReferenceIdeal
public import proofs.«01_k».proof.Proof.Line
public import Idealize.ShloMosaic.PureOps.Ideal
public import proofs.«01_k».proof.Proof.Word
public import proofs.«01_k».proof.Proof.RefRefs

@[expose] public section

noncomputable section

namespace Cert.ReferenceIdeal.Line

open Idealize.ShloMosaic Idealize.ShloMosaic.StableHlo Cert.Line
open Cert.ReferenceIdeal Facts₀ Facts

/-- An operation of the reference. -/
abbrev Op : Type := HloOp τ sig (Elt Ideal)
/-- A word array. -/
abbrev Words : Type := TRef sig ⟨S128x100000, .i32⟩
/-- A single word. -/
abbrev Single : Type := TRef sig ⟨S_, .i32⟩

variable [Facts]

/-- Two words one after the other. -/
def keyCat (a b : IVec S1 32) : IVec S2 32 := concatenate S2 0 [⟨S1, a⟩, ⟨S1, b⟩] concatenates_S1_S1_S2_d0

/-- One round of the block function, by the amounts `d` and `e`, from the pair `x0`, `x1` to the pair `s`, `y`. -/
def roundOps (d e : BitVec 32) (x0 x1 s : Words) (c : Single) (b l : Words) (c' : Single) (b' r o y : Words) : List Op :=
  [bin x0 x1 s addi, nul c (constantI S_ 32 d), una c b (broadcastInDim S128x100000 ![] bcast_S_S128x100000),
   bin x1 b l Host.shli, nul c' (constantI S_ 32 e), una c' b' (broadcastInDim S128x100000 ![] bcast_S_S128x100000),
   bin x1 b' r Host.shrui, bin l r o ori, bin s o y xori]

/-- One key addition, of the words at `ka` and `kb` and the number `n`, from the pair `x0`, `x1` to the pair `y0`, `y1`. -/
def keyOps (n : BitVec 32) (ka kb : Single) (x0 x1 b y0 b' t : Words) (c : Single) (b'' y1 : Words) : List Op :=
  [una ka b (broadcastInDim S128x100000 ![] bcast_S_S128x100000), bin x0 b y0 addi,
   una kb b' (broadcastInDim S128x100000 ![] bcast_S_S128x100000), bin x1 b' t addi, nul c (constantI S_ 32 n),
   una c b'' (broadcastInDim S128x100000 ![] bcast_S_S128x100000), bin t b'' y1 addi]

/-- The words of the key 42. -/
def keyWordOps : List Op :=
  [nul m_c (constantI S_ 32 42#32),
   nul m_c_0 (constantI S_ 32 32#32),
   bin m_c m_c_0 m_v0 Host.shrui,
   una m_v0 m_v1 id,
   una m_v1 m_v2 (broadcastInDim S1 ![] bcast_S_S1),
   nul m_c_1 (constantI S_ 32 4294967295#32),
   bin m_c m_c_1 m_v3 andi,
   una m_v3 m_v4 id,
   una m_v4 m_v5 (broadcastInDim S1 ![] bcast_S_S1),
   bin m_v2 m_v5 m_v6 keyCat,
   nul m_cst (constant (F := Ideal) S_ .f32 0x00000000#32),
   nul m_cst_2 (constant (F := Ideal) S_ .f32 0x3F800000#32)]

/-- The limits of the uniform draw, the two key words and the entries' counters. -/
def seedOps : List Op :=
  [una m_cst u_v0 id,
   una m_cst_2 u_v1 id,
   una u_v0 u_v2 (broadcastInDim S1x1 ![] bcast_S_S1x1),
   una u_v1 u_v3 (broadcastInDim S1x1 ![] bcast_S_S1x1),
   una m_v6 u_v4 (fun x => extractStridedSlice S1 ![0] x slices_S2_S1_0),
   rsh u_v4 u_v5 shapeCasts_S1_S_,
   una m_v6 u_v6 (fun x => extractStridedSlice S1 ![1] x slices_S2_S1_1),
   rsh u_v6 u_v7 shapeCasts_S1_S_,
   nul u_v8 (iotaInDim S128x100000 64 0),
   nul u_v9 (iotaInDim S128x100000 64 1),
   nul u_c (constantI S_ 64 100000#64),
   una u_c u_v10 (broadcastInDim S128x100000 ![] bcast_S_S128x100000),
   bin u_v10 u_v8 u_v11 muli,
   nul u_c_0 (constantI S_ 64 1#64),
   una u_c_0 u_v12 (broadcastInDim S128x100000 ![] bcast_S_S128x100000),
   bin u_v12 u_v9 u_v13 muli,
   bin u_v11 u_v13 u_v14 addi,
   nul u_c_1 (constantI S_ 64 32#64),
   una u_c_1 u_v15 (broadcastInDim S128x100000 ![] bcast_S_S128x100000),
   bin u_v14 u_v15 u_v16 Host.shrui,
   una u_v14 u_v17 (fun x => trunci 32 x natLt_32_64),
   una u_v16 u_v18 (fun x => trunci 32 x natLt_32_64)]

/-- The third key word and the pair the rounds start from. -/
def startOps : List Op :=
  [bin u_v5 u_v7 t_v0 xori,
   nul t_c (constantI S_ 32 466688986#32),
   bin t_v0 t_c t_v1 xori,
   una u_v5 t_v2 (broadcastInDim S128x100000 ![] bcast_S_S128x100000),
   bin u_v18 t_v2 t_v3 addi,
   una u_v7 t_v4 (broadcastInDim S128x100000 ![] bcast_S_S128x100000),
   bin u_v17 t_v4 t_v5 addi]

def step1 : List Op := roundOps 13#32 19#32 t_v3 t_v5 t_v6 t_c_0 t_v7 t_v8 t_c_1 t_v9 t_v10 t_v11 t_v12
def step2 : List Op := roundOps 15#32 17#32 t_v6 t_v12 t_v13 t_c_2 t_v14 t_v15 t_c_3 t_v16 t_v17 t_v18 t_v19
def step3 : List Op := roundOps 26#32 6#32 t_v13 t_v19 t_v20 t_c_4 t_v21 t_v22 t_c_5 t_v23 t_v24 t_v25 t_v26
def step4 : List Op := roundOps 6#32 26#32 t_v20 t_v26 t_v27 t_c_6 t_v28 t_v29 t_c_7 t_v30 t_v31 t_v32 t_v33
def step5 : List Op := keyOps 1#32 u_v7 t_v1 t_v27 t_v33 t_v34 t_v35 t_v36 t_v37 t_c_8 t_v38 t_v39
def step6 : List Op := roundOps 17#32 15#32 t_v35 t_v39 t_v40 t_c_9 t_v41 t_v42 t_c_10 t_v43 t_v44 t_v45 t_v46
def step7 : List Op := roundOps 29#32 3#32 t_v40 t_v46 t_v47 t_c_11 t_v48 t_v49 t_c_12 t_v50 t_v51 t_v52 t_v53
def step8 : List Op := roundOps 16#32 16#32 t_v47 t_v53 t_v54 t_c_13 t_v55 t_v56 t_c_14 t_v57 t_v58 t_v59 t_v60
def step9 : List Op := roundOps 24#32 8#32 t_v54 t_v60 t_v61 t_c_15 t_v62 t_v63 t_c_16 t_v64 t_v65 t_v66 t_v67
def step10 : List Op := keyOps 2#32 t_v1 u_v5 t_v61 t_v67 t_v68 t_v69 t_v70 t_v71 t_c_17 t_v72 t_v73
def step11 : List Op := roundOps 13#32 19#32 t_v69 t_v73 t_v74 t_c_18 t_v75 t_v76 t_c_19 t_v77 t_v78 t_v79 t_v80
def step12 : List Op := roundOps 15#32 17#32 t_v74 t_v80 t_v81 t_c_20 t_v82 t_v83 t_c_21 t_v84 t_v85 t_v86 t_v87
def step13 : List Op := roundOps 26#32 6#32 t_v81 t_v87 t_v88 t_c_22 t_v89 t_v90 t_c_23 t_v91 t_v92 t_v93 t_v94
def step14 : List Op := roundOps 6#32 26#32 t_v88 t_v94 t_v95 t_c_24 t_v96 t_v97 t_c_25 t_v98 t_v99 t_v100 t_v101
def step15 : List Op := keyOps 3#32 u_v5 u_v7 t_v95 t_v101 t_v102 t_v103 t_v104 t_v105 t_c_26 t_v106 t_v107
def step16 : List Op := roundOps 17#32 15#32 t_v103 t_v107 t_v108 t_c_27 t_v109 t_v110 t_c_28 t_v111 t_v112 t_v113 t_v114
def step17 : List Op := roundOps 29#32 3#32 t_v108 t_v114 t_v115 t_c_29 t_v116 t_v117 t_c_30 t_v118 t_v119 t_v120 t_v121
def step18 : List Op := roundOps 16#32 16#32 t_v115 t_v121 t_v122 t_c_31 t_v123 t_v124 t_c_32 t_v125 t_v126 t_v127 t_v128
def step19 : List Op := roundOps 24#32 8#32 t_v122 t_v128 t_v129 t_c_33 t_v130 t_v131 t_c_34 t_v132 t_v133 t_v134 t_v135
def step20 : List Op := keyOps 4#32 u_v7 t_v1 t_v129 t_v135 t_v136 t_v137 t_v138 t_v139 t_c_35 t_v140 t_v141
def step21 : List Op := roundOps 13#32 19#32 t_v137 t_v141 t_v142 t_c_36 t_v143 t_v144 t_c_37 t_v145 t_v146 t_v147 t_v148
def step22 : List Op := roundOps 15#32 17#32 t_v142 t_v148 t_v149 t_c_38 t_v150 t_v151 t_c_39 t_v152 t_v153 t_v154 t_v155
def step23 : List Op := roundOps 26#32 6#32 t_v149 t_v155 t_v156 t_c_40 t_v157 t_v158 t_c_41 t_v159 t_v160 t_v161 t_v162
def step24 : List Op := roundOps 6#32 26#32 t_v156 t_v162 t_v163 t_c_42 t_v164 t_v165 t_c_43 t_v166 t_v167 t_v168 t_v169
def step25 : List Op := keyOps 5#32 t_v1 u_v5 t_v163 t_v169 t_v170 u_v19_0 t_v172 t_v173 t_c_44 t_v174 u_v19_1

/-- The block function's rounds and key additions. -/
def stepOps : List Op :=
  step1 ++ (step2 ++ (step3 ++ (step4 ++ (step5 ++ (step6 ++ (step7 ++ (step8 ++ (step9 ++ (step10 ++ (step11 ++ (step12 ++ (step13 ++ (step14 ++ (step15 ++ (step16 ++ (step17 ++ (step18 ++ (step19 ++ (step20 ++ (step21 ++ (step22 ++ (step23 ++ (step24 ++ (step25))))))))))))))))))))))))

/-- The drawn words as uniform numbers. -/
def wordOps : List Op :=
  [bin u_v19_0 u_v19_1 u_v20 xori,
   nul u_c_2 (constantI S_ 32 9#32),
   una u_c_2 u_v21 (broadcastInDim S128x100000 ![] bcast_S_S128x100000),
   bin u_v20 u_v21 u_v22 Host.shrui,
   nul u_c_3 (constantI S_ 32 1065353216#32),
   una u_c_3 u_v23 (broadcastInDim S128x100000 ![] bcast_S_S128x100000),
   bin u_v22 u_v23 u_v24 ori,
   una u_v24 u_v25 (bitcastToFloat (F := Ideal) .f32),
   nul u_cst (constant (F := Ideal) S_ .f32 0x3F800000#32),
   una u_cst u_v26 (broadcastInDim S128x100000 ![] bcast_S_S128x100000),
   bin u_v25 u_v26 u_v27 (subf (F := Ideal) (φ := .f32)),
   bin u_v3 u_v2 u_v28 (subf (F := Ideal) (φ := .f32)),
   una u_v28 u_v29 (broadcastInDim S128x100000 ![0, 1] bcast_S1x1_S128x100000_0_1),
   bin u_v27 u_v29 u_v30 (mulf (F := Ideal) (φ := .f32)),
   una u_v2 u_v31 (broadcastInDim S128x100000 ![0, 1] bcast_S1x1_S128x100000_0_1),
   bin u_v30 u_v31 u_v32 (addf (F := Ideal) (φ := .f32)),
   una u_v2 u_v33 (broadcastInDim S128x100000 ![0, 1] bcast_S1x1_S128x100000_0_1),
   bin u_v33 u_v32 m_v7 (maximumf (F := Ideal) (φ := .f32))]

/-- The Gumbel noise and its sum with the logits. -/
def noiseOps : List Op :=
  [nul m_cst_3 (constant (F := Ideal) S_ .f32 0x00800000#32),
   una m_cst_3 m_v8 (broadcastInDim S128x100000 ![] bcast_S_S128x100000),
   bin m_v7 m_v8 m_v9 (addf (F := Ideal) (φ := .f32)),
   nul m_cst_4 (constant (F := Ideal) S_ .f32 0x00800000#32),
   una m_cst_4 m_v10 (broadcastInDim S128x100000 ![] bcast_S_S128x100000),
   bin m_v10 m_v9 m_v11 (maximumf (F := Ideal) (φ := .f32)),
   una m_v11 m_v12 (Host.log (F := Ideal) (φ := .f32)),
   una m_v12 m_v13 (Host.negf (F := Ideal) (φ := .f32)),
   una m_v13 m_v14 (Host.log (F := Ideal) (φ := .f32)),
   una m_v14 m_v15 (Host.negf (F := Ideal) (φ := .f32)),
   bin m_arg0 m_v15 m_v16 (addf (F := Ideal) (φ := .f32))]

/-- The softmax of the sums. -/
def softOps : List Op :=
  [nul m_cst_5 (constant (F := Ideal) S_ .f32 0x3F800000#32),
   una m_cst_5 m_v17 (broadcastInDim S128x100000 ![] bcast_S_S128x100000),
   bin m_v16 m_v17 m_v18 (Host.divf (F := Ideal) (φ := .f32)),
   nul m_cst_6 (constant (F := Ideal) S_ .f32 0xFF800000#32),
   bin m_v18 m_cst_6 m_v19 (fun (x : FVec Ideal S128x100000 .f32) (v : FVec Ideal S_ .f32) => Host.reduce (FloatOps.maximumf (F := Ideal) (φ := .f32)) x v reducesTo_S128x100000_S128_d1 h_S_),
   nul m_cst_7 (constant (F := Ideal) S_ .f32 0xFF800000#32),
   una m_cst_7 m_v20 (broadcastInDim S128 ![] bcast_S_S128),
   bin m_v20 m_v19 m_v21 (maximumf (F := Ideal) (φ := .f32)),
   una m_v21 m_v22 (broadcastInDim S128x1 ![0] bcast_S128_S128x1_0),
   una m_v22 m_v23 (broadcastInDim S128x100000 ![0, 1] bcast_S128x1_S128x100000_0_1),
   bin m_v18 m_v23 m_v24 (subf (F := Ideal) (φ := .f32)),
   una m_v24 m_v25 (Host.exp (F := Ideal) (φ := .f32)),
   nul m_cst_8 (constant (F := Ideal) S_ .f32 0x00000000#32),
   bin m_v25 m_cst_8 m_v26 (fun (x : FVec Ideal S128x100000 .f32) (v : FVec Ideal S_ .f32) => Host.reduceAdd x v reducesTo_S128x100000_S128_d1 h_S_),
   una m_v26 m_v27 (broadcastInDim S128x1 ![0] bcast_S128_S128x1_0),
   una m_v27 m_v28 (broadcastInDim S128x100000 ![0, 1] bcast_S128x1_S128x100000_0_1),
   bin m_v25 m_v28 m_v29 (Host.divf (F := Ideal) (φ := .f32))]

/-- Each row's argmax. -/
def argOps : List Op :=
  [nul g_v0 (iotaInDim S128x100000 32 1),
   nul g_cst (constant (F := Ideal) S_ .f32 0xFF800000#32),
   nul g_c (constantI S_ 32 0#32),
   qua m_v29 g_v0 g_cst g_c g_v1_0 (fun (x : FVec Ideal S128x100000 .f32) (y : IVec S128x100000 32) (u : FVec Ideal S_ .f32) (v : IVec S_ 32) j =>
    (Host.argReduce reducer_argmax_f32_i32 x y u v reducesTo_S128x100000_S128_d1 h_S_ j).1),
   qua m_v29 g_v0 g_cst g_c m_v30 (fun (x : FVec Ideal S128x100000 .f32) (y : IVec S128x100000 32) (u : FVec Ideal S_ .f32) (v : IVec S_ 32) j =>
    (Host.argReduce reducer_argmax_f32_i32 x y u v reducesTo_S128x100000_S128_d1 h_S_ j).2)]

/-- Its one-hot row. -/
def hotOps : List Op :=
  [una m_v30 h_v0 (broadcastInDim S128x1 ![0] bcast_S128_S128x1_0),
   nul h_v1 (iotaInDim S1x100000 32 1),
   una h_v0 h_v2 (broadcastInDim S128x100000 ![0, 1] bcast_S128x1_S128x100000_0_1),
   una h_v1 h_v3 (broadcastInDim S128x100000 ![0, 1] bcast_S1x100000_S128x100000_0_1),
   bin h_v2 h_v3 h_v4 (cmpi .eq),
   una h_v4 m_v31 (uitofp (F := Ideal) .f32)]

/-- The straight-through sum. -/
def lastOps : List Op :=
  [bin m_v31 m_v29 m_v32 (subf (F := Ideal) (φ := .f32)),
   bin m_v32 m_v29 m_v33 (addf (F := Ideal) (φ := .f32))]

/-- All operations of the reference, in order. -/
def ops : List Op :=
  keyWordOps ++ (seedOps ++ (startOps ++ (stepOps ++ (wordOps ++ (noiseOps ++ (softOps ++ (argOps ++ (hotOps ++ lastOps))))))))

end Cert.ReferenceIdeal.Line
-- ==== Proof.RefRounds.lean ====
/- What one round and one key addition of the reference leave: the pair of word arrays they compute, entry by entry the
   word steps of Word.lean, with the buffers of a given list untouched. -/
module

public import proofs.«01_k».proof.Proof.RefOps

@[expose] public section

noncomputable section

namespace Cert.ReferenceIdeal.Line

open Idealize.ShloMosaic Idealize.ShloMosaic.StableHlo Cert.Line
open Cert.ReferenceIdeal Facts₀ Facts

variable [Facts]

/-- Contents of every buffer. -/
abbrev Store : Type := Valuation τ sig (Elt Ideal)

/-- The buffers of `K` are as at `V₀`, and the pair at `x0`, `x1` is `P`, entry by entry. -/
structure Holds (K : List (Ref sig .tc)) (V₀ V : Store) (x0 x1 : Words) (P : S128x100000.Idx → Word.Pair) : Prop where
  kept : ∀ {T : BufTy} (t : TRef sig T), t.ref ∈ K → rd V t = rd V₀ t
  fst : rd V x0 = fun i => (P i).1
  snd : rd V x1 = fun i => (P i).2

/-- One round: the pair advances by `mix`. -/
theorem round_holds {K : List (Ref sig .tc)} {V₀ V : Store} {x0 x1 : Words} {P : S128x100000.Idx → Word.Pair}
    (H : Holds K V₀ V x0 x1 P) (d e : BitVec 32) (s : Words) (c : Single) (b l : Words) (c' : Single)
    (b' r o y : Words) (hd : d.toNat < 32) (he : e.toNat < 32)
    (hn : [x1.ref, s.ref, c.ref, b.ref, l.ref, c'.ref, b'.ref, r.ref, o.ref, y.ref].Nodup)
    (hk : ∀ k ∈ K, k ∉ [s.ref, c.ref, b.ref, l.ref, c'.ref, b'.ref, r.ref, o.ref, y.ref]) :
    Holds K V₀ (after (roundOps d e x0 x1 s c b l c' b' r o y) V) s y (fun i => Word.mix d e (P i)) := by
  simp only [List.nodup_cons, List.mem_cons, not_or, List.not_mem_nil, not_false_eq_true, and_true, List.nodup_nil] at hn
  obtain ⟨⟨a1, a2, a3, a4, a5, a6, a7, a8, a9⟩, ⟨b1, b2, b3, b4, b5, b6, b7, b8⟩, ⟨c1, c2, c3, c4, c5, c6, c7⟩,
    ⟨d1, d2, d3, d4, d5, d6⟩, ⟨e1, e2, e3, e4, e5⟩, ⟨f1, f2, f3, f4⟩, ⟨g1, g2, g3⟩, ⟨i1, i2⟩, j1⟩ := hn
  constructor
  · intro T t ht
    have h := hk _ ht
    simp only [List.mem_cons, not_or, List.not_mem_nil, not_false_eq_true, and_true] at h
    obtain ⟨h1, h2, h3, h4, h5, h6, h7, h8, h9⟩ := h
    rw [← H.kept t ht]
    simp only [roundOps, after_cons, after_nil]
    rw [rd_bin_ne _ _ _ _ _ _ h9, rd_bin_ne _ _ _ _ _ _ h8, rd_bin_ne _ _ _ _ _ _ h7, rd_una_ne _ _ _ _ _ h6,
      rd_nul_ne _ _ _ _ h5, rd_bin_ne _ _ _ _ _ _ h4, rd_una_ne _ _ _ _ _ h3, rd_nul_ne _ _ _ _ h2,
      rd_bin_ne _ _ _ _ _ _ h1]
  · simp only [roundOps, after_cons, after_nil]
    rw [rd_bin_ne _ _ _ _ _ _ b8, rd_bin_ne _ _ _ _ _ _ b7, rd_bin_ne _ _ _ _ _ _ b6, rd_una_ne _ _ _ _ _ b5,
      rd_nul_ne _ _ _ _ b4, rd_bin_ne _ _ _ _ _ _ b3, rd_una_ne _ _ _ _ _ b2, rd_nul_ne _ _ _ _ b1, rd_bin,
      H.fst, H.snd]
    rfl
  · simp only [roundOps, after_cons, after_nil]
    rw [rd_bin, rd_bin,
      rd_bin_ne _ _ _ _ _ s b7, rd_bin_ne _ _ _ _ _ s b6, rd_una_ne _ _ _ _ s b5,
      rd_nul_ne _ _ _ s b4, rd_bin_ne _ _ _ _ _ s b3, rd_una_ne _ _ _ _ s b2, rd_nul_ne _ _ _ s b1, rd_bin,
      rd_bin_ne _ _ _ _ _ l e3, rd_una_ne _ _ _ _ l e2, rd_nul_ne _ _ _ l e1, rd_bin, rd_bin, rd_una, rd_nul, rd_una, rd_nul,
      rd_una_ne _ _ _ _ x1 a6, rd_nul_ne _ _ _ x1 a5, rd_bin_ne _ _ _ _ _ x1 a4, rd_una_ne _ _ _ _ x1 a3,
      rd_nul_ne _ _ _ x1 a2, rd_bin_ne _ _ _ _ _ x1 a1, H.fst, H.snd]
    funext i
    rw [show P i = ((P i).1, (P i).2) from rfl, Word.mix_eq' .host d e _ _ hd he]
    rfl

/-- One key addition: the pair advances by `addKey`, with the words that the two key buffers hold. -/
theorem key_holds {K : List (Ref sig .tc)} {V₀ V : Store} {x0 x1 : Words} {P : S128x100000.Idx → Word.Pair}
    (H : Holds K V₀ V x0 x1 P) (n : BitVec 32) (ka kb : Single) (b y0 b' t : Words) (c : Single) (b'' y1 : Words)
    (A B : BitVec 32) (hA : rd V₀ ka = fun _ => A) (hB : rd V₀ kb = fun _ => B) (ha : ka.ref ∈ K) (hb : kb.ref ∈ K)
    (hn : [x1.ref, b.ref, y0.ref, b'.ref, t.ref, c.ref, b''.ref, y1.ref].Nodup) (hx : x0.ref ≠ b.ref)
    (hk : ∀ k ∈ K, k ∉ [b.ref, y0.ref, b'.ref, t.ref, c.ref, b''.ref, y1.ref]) :
    Holds K V₀ (after (keyOps n ka kb x0 x1 b y0 b' t c b'' y1) V) y0 y1 (fun i => Word.addKey A B n (P i)) := by
  simp only [List.nodup_cons, List.mem_cons, not_or, List.not_mem_nil, not_false_eq_true, and_true, List.nodup_nil] at hn
  obtain ⟨⟨a1, a2, a3, a4, a5, a6, a7⟩, ⟨b1, b2, b3, b4, b5, b6⟩, ⟨c1, c2, c3, c4, c5⟩,
    ⟨d1, d2, d3, d4⟩, ⟨e1, e2, e3⟩, ⟨f1, f2⟩, g1⟩ := hn
  have hkb := hk _ hb
  simp only [List.mem_cons, not_or, List.not_mem_nil, not_false_eq_true, and_true] at hkb
  obtain ⟨k1, k2, -⟩ := hkb
  constructor
  · intro T u hu
    have h := hk _ hu
    simp only [List.mem_cons, not_or, List.not_mem_nil, not_false_eq_true, and_true] at h
    obtain ⟨h1, h2, h3, h4, h5, h6, h7⟩ := h
    rw [← H.kept u hu]
    simp only [keyOps, after_cons, after_nil]
    rw [rd_bin_ne _ _ _ _ _ _ h7, rd_una_ne _ _ _ _ _ h6, rd_nul_ne _ _ _ _ h5, rd_bin_ne _ _ _ _ _ _ h4,
      rd_una_ne _ _ _ _ _ h3, rd_bin_ne _ _ _ _ _ _ h2, rd_una_ne _ _ _ _ _ h1]
  · simp only [keyOps, after_cons, after_nil]
    rw [rd_bin_ne _ _ _ _ _ y0 c5, rd_una_ne _ _ _ _ y0 c4, rd_nul_ne _ _ _ y0 c3, rd_bin_ne _ _ _ _ _ y0 c2,
      rd_una_ne _ _ _ _ y0 c1, rd_bin, rd_una_ne _ _ _ _ x0 hx, rd_una, H.fst, H.kept ka ha, hA]
    rfl
  · simp only [keyOps, after_cons, after_nil]
    rw [rd_bin, rd_una, rd_nul, rd_una_ne _ _ _ _ t e2, rd_nul_ne _ _ _ t e1, rd_bin,
      rd_una_ne _ _ _ _ x1 a3, rd_bin_ne _ _ _ _ _ x1 a2, rd_una_ne _ _ _ _ x1 a1, rd_una,
      rd_bin_ne _ _ _ _ _ kb k2, rd_una_ne _ _ _ _ kb k1, H.snd, H.kept kb hb, hB]
    rfl

end Cert.ReferenceIdeal.Line
-- ==== Proof.RefSteps.lean ====
/- The reference's block function, read: its rounds and key additions advance the pair of word arrays as `Word.steps` does,
   and the buffers that later operations read are left as they were. -/
module

public import proofs.«01_k».proof.Proof.RefRounds

@[expose] public section

noncomputable section

namespace Cert.ReferenceIdeal.Line

open Idealize.ShloMosaic Idealize.ShloMosaic.StableHlo Cert.Line
open Cert.ReferenceIdeal Facts₀ Facts

variable [Facts]

/-- The buffers that the block function's steps leave alone and that are read during them or after: the three key words,
    the argument, and the uniform draw's limits. -/
def held : List (Ref sig .tc) := [u_v5.ref, u_v7.ref, t_v1.ref, main_arg0, u_v2.ref, u_v3.ref]

/-- Step 1, a round. -/
theorem step1_holds {V₀ V : Store} {P : S128x100000.Idx → Word.Pair} (H : Holds held V₀ V t_v3 t_v5 P) :
    Holds held V₀ (after step1 V) t_v6 t_v12 (fun i => Word.mix 13#32 19#32 (P i)) :=
  round_holds H 13#32 19#32 t_v6 t_c_0 t_v7 t_v8 t_c_1 t_v9 t_v10 t_v11 t_v12 (by decide) (by decide) (by decide) (by decide)

/-- Step 2, a round. -/
theorem step2_holds {V₀ V : Store} {P : S128x100000.Idx → Word.Pair} (H : Holds held V₀ V t_v6 t_v12 P) :
    Holds held V₀ (after step2 V) t_v13 t_v19 (fun i => Word.mix 15#32 17#32 (P i)) :=
  round_holds H 15#32 17#32 t_v13 t_c_2 t_v14 t_v15 t_c_3 t_v16 t_v17 t_v18 t_v19 (by decide) (by decide) (by decide) (by decide)

/-- Step 3, a round. -/
theorem step3_holds {V₀ V : Store} {P : S128x100000.Idx → Word.Pair} (H : Holds held V₀ V t_v13 t_v19 P) :
    Holds held V₀ (after step3 V) t_v20 t_v26 (fun i => Word.mix 26#32 6#32 (P i)) :=
  round_holds H 26#32 6#32 t_v20 t_c_4 t_v21 t_v22 t_c_5 t_v23 t_v24 t_v25 t_v26 (by decide) (by decide) (by decide) (by decide)

/-- Step 4, a round. -/
theorem step4_holds {V₀ V : Store} {P : S128x100000.Idx → Word.Pair} (H : Holds held V₀ V t_v20 t_v26 P) :
    Holds held V₀ (after step4 V) t_v27 t_v33 (fun i => Word.mix 6#32 26#32 (P i)) :=
  round_holds H 6#32 26#32 t_v27 t_c_6 t_v28 t_v29 t_c_7 t_v30 t_v31 t_v32 t_v33 (by decide) (by decide) (by decide) (by decide)

/-- Step 5, a key addition. -/
theorem step5_holds {V₀ V : Store} {P : S128x100000.Idx → Word.Pair} (H : Holds held V₀ V t_v27 t_v33 P) {k1 k2 : BitVec 32}
    (hA : rd V₀ u_v7 = fun _ => k1) (hB : rd V₀ t_v1 = fun _ => k2) :
    Holds held V₀ (after step5 V) t_v35 t_v39 (fun i => Word.addKey k1 k2 1#32 (P i)) :=
  key_holds H 1#32 u_v7 t_v1 t_v34 t_v35 t_v36 t_v37 t_c_8 t_v38 t_v39 k1 k2 hA hB (by decide) (by decide)
    (by decide) (by decide) (by decide)

/-- Step 6, a round. -/
theorem step6_holds {V₀ V : Store} {P : S128x100000.Idx → Word.Pair} (H : Holds held V₀ V t_v35 t_v39 P) :
    Holds held V₀ (after step6 V) t_v40 t_v46 (fun i => Word.mix 17#32 15#32 (P i)) :=
  round_holds H 17#32 15#32 t_v40 t_c_9 t_v41 t_v42 t_c_10 t_v43 t_v44 t_v45 t_v46 (by decide) (by decide) (by decide) (by decide)

/-- Step 7, a round. -/
theorem step7_holds {V₀ V : Store} {P : S128x100000.Idx → Word.Pair} (H : Holds held V₀ V t_v40 t_v46 P) :
    Holds held V₀ (after step7 V) t_v47 t_v53 (fun i => Word.mix 29#32 3#32 (P i)) :=
  round_holds H 29#32 3#32 t_v47 t_c_11 t_v48 t_v49 t_c_12 t_v50 t_v51 t_v52 t_v53 (by decide) (by decide) (by decide) (by decide)

/-- Step 8, a round. -/
theorem step8_holds {V₀ V : Store} {P : S128x100000.Idx → Word.Pair} (H : Holds held V₀ V t_v47 t_v53 P) :
    Holds held V₀ (after step8 V) t_v54 t_v60 (fun i => Word.mix 16#32 16#32 (P i)) :=
  round_holds H 16#32 16#32 t_v54 t_c_13 t_v55 t_v56 t_c_14 t_v57 t_v58 t_v59 t_v60 (by decide) (by decide) (by decide) (by decide)

/-- Step 9, a round. -/
theorem step9_holds {V₀ V : Store} {P : S128x100000.Idx → Word.Pair} (H : Holds held V₀ V t_v54 t_v60 P) :
    Holds held V₀ (after step9 V) t_v61 t_v67 (fun i => Word.mix 24#32 8#32 (P i)) :=
  round_holds H 24#32 8#32 t_v61 t_c_15 t_v62 t_v63 t_c_16 t_v64 t_v65 t_v66 t_v67 (by decide) (by decide) (by decide) (by decide)

/-- Step 10, a key addition. -/
theorem step10_holds {V₀ V : Store} {P : S128x100000.Idx → Word.Pair} (H : Holds held V₀ V t_v61 t_v67 P) {k2 k0 : BitVec 32}
    (hA : rd V₀ t_v1 = fun _ => k2) (hB : rd V₀ u_v5 = fun _ => k0) :
    Holds held V₀ (after step10 V) t_v69 t_v73 (fun i => Word.addKey k2 k0 2#32 (P i)) :=
  key_holds H 2#32 t_v1 u_v5 t_v68 t_v69 t_v70 t_v71 t_c_17 t_v72 t_v73 k2 k0 hA hB (by decide) (by decide)
    (by decide) (by decide) (by decide)

/-- Step 11, a round. -/
theorem step11_holds {V₀ V : Store} {P : S128x100000.Idx → Word.Pair} (H : Holds held V₀ V t_v69 t_v73 P) :
    Holds held V₀ (after step11 V) t_v74 t_v80 (fun i => Word.mix 13#32 19#32 (P i)) :=
  round_holds H 13#32 19#32 t_v74 t_c_18 t_v75 t_v76 t_c_19 t_v77 t_v78 t_v79 t_v80 (by decide) (by decide) (by decide) (by decide)

/-- Step 12, a round. -/
theorem step12_holds {V₀ V : Store} {P : S128x100000.Idx → Word.Pair} (H : Holds held V₀ V t_v74 t_v80 P) :
    Holds held V₀ (after step12 V) t_v81 t_v87 (fun i => Word.mix 15#32 17#32 (P i)) :=
  round_holds H 15#32 17#32 t_v81 t_c_20 t_v82 t_v83 t_c_21 t_v84 t_v85 t_v86 t_v87 (by decide) (by decide) (by decide) (by decide)

/-- Step 13, a round. -/
theorem step13_holds {V₀ V : Store} {P : S128x100000.Idx → Word.Pair} (H : Holds held V₀ V t_v81 t_v87 P) :
    Holds held V₀ (after step13 V) t_v88 t_v94 (fun i => Word.mix 26#32 6#32 (P i)) :=
  round_holds H 26#32 6#32 t_v88 t_c_22 t_v89 t_v90 t_c_23 t_v91 t_v92 t_v93 t_v94 (by decide) (by decide) (by decide) (by decide)

/-- Step 14, a round. -/
theorem step14_holds {V₀ V : Store} {P : S128x100000.Idx → Word.Pair} (H : Holds held V₀ V t_v88 t_v94 P) :
    Holds held V₀ (after step14 V) t_v95 t_v101 (fun i => Word.mix 6#32 26#32 (P i)) :=
  round_holds H 6#32 26#32 t_v95 t_c_24 t_v96 t_v97 t_c_25 t_v98 t_v99 t_v100 t_v101 (by decide) (by decide) (by decide) (by decide)

/-- Step 15, a key addition. -/
theorem step15_holds {V₀ V : Store} {P : S128x100000.Idx → Word.Pair} (H : Holds held V₀ V t_v95 t_v101 P) {k0 k1 : BitVec 32}
    (hA : rd V₀ u_v5 = fun _ => k0) (hB : rd V₀ u_v7 = fun _ => k1) :
    Holds held V₀ (after step15 V) t_v103 t_v107 (fun i => Word.addKey k0 k1 3#32 (P i)) :=
  key_holds H 3#32 u_v5 u_v7 t_v102 t_v103 t_v104 t_v105 t_c_26 t_v106 t_v107 k0 k1 hA hB (by decide) (by decide)
    (by decide) (by decide) (by decide)

/-- Step 16, a round. -/
theorem step16_holds {V₀ V : Store} {P : S128x100000.Idx → Word.Pair} (H : Holds held V₀ V t_v103 t_v107 P) :
    Holds held V₀ (after step16 V) t_v108 t_v114 (fun i => Word.mix 17#32 15#32 (P i)) :=
  round_holds H 17#32 15#32 t_v108 t_c_27 t_v109 t_v110 t_c_28 t_v111 t_v112 t_v113 t_v114 (by decide) (by decide) (by decide) (by decide)

/-- Step 17, a round. -/
theorem step17_holds {V₀ V : Store} {P : S128x100000.Idx → Word.Pair} (H : Holds held V₀ V t_v108 t_v114 P) :
    Holds held V₀ (after step17 V) t_v115 t_v121 (fun i => Word.mix 29#32 3#32 (P i)) :=
  round_holds H 29#32 3#32 t_v115 t_c_29 t_v116 t_v117 t_c_30 t_v118 t_v119 t_v120 t_v121 (by decide) (by decide) (by decide) (by decide)

/-- Step 18, a round. -/
theorem step18_holds {V₀ V : Store} {P : S128x100000.Idx → Word.Pair} (H : Holds held V₀ V t_v115 t_v121 P) :
    Holds held V₀ (after step18 V) t_v122 t_v128 (fun i => Word.mix 16#32 16#32 (P i)) :=
  round_holds H 16#32 16#32 t_v122 t_c_31 t_v123 t_v124 t_c_32 t_v125 t_v126 t_v127 t_v128 (by decide) (by decide) (by decide) (by decide)

/-- Step 19, a round. -/
theorem step19_holds {V₀ V : Store} {P : S128x100000.Idx → Word.Pair} (H : Holds held V₀ V t_v122 t_v128 P) :
    Holds held V₀ (after step19 V) t_v129 t_v135 (fun i => Word.mix 24#32 8#32 (P i)) :=
  round_holds H 24#32 8#32 t_v129 t_c_33 t_v130 t_v131 t_c_34 t_v132 t_v133 t_v134 t_v135 (by decide) (by decide) (by decide) (by decide)

/-- Step 20, a key addition. -/
theorem step20_holds {V₀ V : Store} {P : S128x100000.Idx → Word.Pair} (H : Holds held V₀ V t_v129 t_v135 P) {k1 k2 : BitVec 32}
    (hA : rd V₀ u_v7 = fun _ => k1) (hB : rd V₀ t_v1 = fun _ => k2) :
    Holds held V₀ (after step20 V) t_v137 t_v141 (fun i => Word.addKey k1 k2 4#32 (P i)) :=
  key_holds H 4#32 u_v7 t_v1 t_v136 t_v137 t_v138 t_v139 t_c_35 t_v140 t_v141 k1 k2 hA hB (by decide) (by decide)
    (by decide) (by decide) (by decide)

/-- Step 21, a round. -/
theorem step21_holds {V₀ V : Store} {P : S128x100000.Idx → Word.Pair} (H : Holds held V₀ V t_v137 t_v141 P) :
    Holds held V₀ (after step21 V) t_v142 t_v148 (fun i => Word.mix 13#32 19#32 (P i)) :=
  round_holds H 13#32 19#32 t_v142 t_c_36 t_v143 t_v144 t_c_37 t_v145 t_v146 t_v147 t_v148 (by decide) (by decide) (by decide) (by decide)

/-- Step 22, a round. -/
theorem step22_holds {V₀ V : Store} {P : S128x100000.Idx → Word.Pair} (H : Holds held V₀ V t_v142 t_v148 P) :
    Holds held V₀ (after step22 V) t_v149 t_v155 (fun i => Word.mix 15#32 17#32 (P i)) :=
  round_holds H 15#32 17#32 t_v149 t_c_38 t_v150 t_v151 t_c_39 t_v152 t_v153 t_v154 t_v155 (by decide) (by decide) (by decide) (by decide)

/-- Step 23, a round. -/
theorem step23_holds {V₀ V : Store} {P : S128x100000.Idx → Word.Pair} (H : Holds held V₀ V t_v149 t_v155 P) :
    Holds held V₀ (after step23 V) t_v156 t_v162 (fun i => Word.mix 26#32 6#32 (P i)) :=
  round_holds H 26#32 6#32 t_v156 t_c_40 t_v157 t_v158 t_c_41 t_v159 t_v160 t_v161 t_v162 (by decide) (by decide) (by decide) (by decide)

/-- Step 24, a round. -/
theorem step24_holds {V₀ V : Store} {P : S128x100000.Idx → Word.Pair} (H : Holds held V₀ V t_v156 t_v162 P) :
    Holds held V₀ (after step24 V) t_v163 t_v169 (fun i => Word.mix 6#32 26#32 (P i)) :=
  round_holds H 6#32 26#32 t_v163 t_c_42 t_v164 t_v165 t_c_43 t_v166 t_v167 t_v168 t_v169 (by decide) (by decide) (by decide) (by decide)

/-- Step 25, a key addition. -/
theorem step25_holds {V₀ V : Store} {P : S128x100000.Idx → Word.Pair} (H : Holds held V₀ V t_v163 t_v169 P) {k2 k0 : BitVec 32}
    (hA : rd V₀ t_v1 = fun _ => k2) (hB : rd V₀ u_v5 = fun _ => k0) :
    Holds held V₀ (after step25 V) u_v19_0 u_v19_1 (fun i => Word.addKey k2 k0 5#32 (P i)) :=
  key_holds H 5#32 t_v1 u_v5 t_v170 u_v19_0 t_v172 t_v173 t_c_44 t_v174 u_v19_1 k2 k0 hA hB (by decide) (by decide)
    (by decide) (by decide) (by decide)

/-- All steps: the pair becomes `Word.steps` of what it was. -/
theorem steps_hold {V : Store} {P : S128x100000.Idx → Word.Pair} (hx : rd V t_v3 = fun i => (P i).1)
    (hy : rd V t_v5 = fun i => (P i).2) {k0 k1 k2 : BitVec 32} (h0 : rd V u_v5 = fun _ => k0)
    (h1 : rd V u_v7 = fun _ => k1) (h2 : rd V t_v1 = fun _ => k2) :
    Holds held V (after stepOps V) u_v19_0 u_v19_1 (fun i => Word.steps k0 k1 k2 (P i)) := by
  have H0 : Holds held V V t_v3 t_v5 P := ⟨fun _ _ => rfl, hx, hy⟩
  have H1 := step1_holds H0
  have H2 := step2_holds H1
  have H3 := step3_holds H2
  have H4 := step4_holds H3
  have H5 := step5_holds H4 h1 h2
  have H6 := step6_holds H5
  have H7 := step7_holds H6
  have H8 := step8_holds H7
  have H9 := step9_holds H8
  have H10 := step10_holds H9 h2 h0
  have H11 := step11_holds H10
  have H12 := step12_holds H11
  have H13 := step13_holds H12
  have H14 := step14_holds H13
  have H15 := step15_holds H14 h0 h1
  have H16 := step16_holds H15
  have H17 := step17_holds H16
  have H18 := step18_holds H17
  have H19 := step19_holds H18
  have H20 := step20_holds H19 h1 h2
  have H21 := step21_holds H20
  have H22 := step22_holds H21
  have H23 := step23_holds H22
  have H24 := step24_holds H23
  have H25 := step25_holds H24 h2 h0
  simp only [stepOps, after_append]
  exact H25

end Cert.ReferenceIdeal.Line
-- ==== Proof.RefSeed.lean ====
/- What the reference's first operations leave: the key words 0 and 42, each entry's counter as two words, the limits of the
   uniform draw, and, after the block function, the two words that the draw combines. -/
module

public import proofs.«01_k».proof.Proof.RefSteps
public import Idealize.ShloMosaic.Lib.IdealHost
public import Idealize.ShloMosaic.Lib.Pointwise

@[expose] public section

noncomputable section

namespace Cert.ReferenceIdeal.Line

open Idealize.ShloMosaic Idealize.ShloMosaic.StableHlo Cert.Line
open Cert.ReferenceIdeal Facts₀ Facts

variable [Facts]

/-- The key's two words, as the reference concatenates them. -/
def keyPair : IVec S2 32 :=
  keyCat (broadcastInDim S1 ![] bcast_S_S1 (Host.shrui (constantI S_ 32 42#32) (constantI S_ 32 32#32)))
    (broadcastInDim S1 ![] bcast_S_S1 (andi (constantI S_ 32 42#32) (constantI S_ 32 4294967295#32)))

/-- The key operations leave the two words, the draw's limits, and the argument. -/
theorem key_read (V : Store) :
    rd (after keyWordOps V) m_v6 = keyPair
      ∧ rd (after keyWordOps V) m_cst = constant (F := Ideal) S_ .f32 0x00000000#32
      ∧ rd (after keyWordOps V) m_cst_2 = constant (F := Ideal) S_ .f32 0x3F800000#32
      ∧ rd (after keyWordOps V) m_arg0 = rd V m_arg0 := by
  refine ⟨?_, ?_, ?_, ?_⟩ <;>
  simp (disch := decide) only [keyWordOps, after_cons, after_nil, rd_nul, rd_una, rd_bin, rd_nul_ne, rd_una_ne, rd_bin_ne,
    keyPair, id]

/-- An entry's counter over 64 bits. -/
def wide : IVec S128x100000 64 :=
  addi (muli (broadcastInDim S128x100000 ![] bcast_S_S128x100000 (constantI S_ 64 100000#64)) (iotaInDim S128x100000 64 0))
    (muli (broadcastInDim S128x100000 ![] bcast_S_S128x100000 (constantI S_ 64 1#64)) (iotaInDim S128x100000 64 1))

/-- The seed operations leave the two key words, the counter's two words, the limits, and the argument. -/
theorem seed_read (V : Store) :
    rd (after seedOps V) u_v5 = shapeCast S_ (extractStridedSlice S1 ![0] (rd V m_v6) slices_S2_S1_0) shapeCasts_S1_S_
      ∧ rd (after seedOps V) u_v7 = shapeCast S_ (extractStridedSlice S1 ![1] (rd V m_v6) slices_S2_S1_1) shapeCasts_S1_S_
      ∧ rd (after seedOps V) u_v17 = trunci 32 wide natLt_32_64
      ∧ rd (after seedOps V) u_v18 = trunci 32 (Host.shrui wide
          (broadcastInDim S128x100000 ![] bcast_S_S128x100000 (constantI S_ 64 32#64))) natLt_32_64
      ∧ rd (after seedOps V) u_v2 = broadcastInDim S1x1 ![] bcast_S_S1x1 (rd V m_cst)
      ∧ rd (after seedOps V) u_v3 = broadcastInDim S1x1 ![] bcast_S_S1x1 (rd V m_cst_2)
      ∧ rd (after seedOps V) m_arg0 = rd V m_arg0 := by
  refine ⟨?_, ?_, ?_, ?_, ?_, ?_, ?_⟩ <;>
  simp (disch := decide) only [seedOps, after_cons, after_nil, rd_nul, rd_una, rd_bin, rd_rsh, rd_nul_ne, rd_una_ne,
    rd_bin_ne, rd_rsh_ne, wide, id]

/-- The start operations leave the third key word, the pair the steps start from, and what they read. -/
theorem start_read (V : Store) :
    rd (after startOps V) t_v1 = xori (xori (rd V u_v5) (rd V u_v7)) (constantI S_ 32 466688986#32)
      ∧ rd (after startOps V) t_v3
        = addi (rd V u_v18) (broadcastInDim S128x100000 ![] bcast_S_S128x100000 (rd V u_v5))
      ∧ rd (after startOps V) t_v5
        = addi (rd V u_v17) (broadcastInDim S128x100000 ![] bcast_S_S128x100000 (rd V u_v7))
      ∧ rd (after startOps V) u_v5 = rd V u_v5
      ∧ rd (after startOps V) u_v7 = rd V u_v7
      ∧ rd (after startOps V) u_v2 = rd V u_v2
      ∧ rd (after startOps V) u_v3 = rd V u_v3
      ∧ rd (after startOps V) m_arg0 = rd V m_arg0 := by
  refine ⟨?_, ?_, ?_, ?_, ?_, ?_, ?_, ?_⟩ <;>
  simp (disch := decide) only [startOps, after_cons, after_nil, rd_nul, rd_una, rd_bin, rd_nul_ne, rd_una_ne, rd_bin_ne]

/-- The key's words: 0, then 42. -/
theorem keyPair_apply (i : S2.Idx) : keyPair i = if (i 0).val = 0 then 0#32 else 42#32 := by
  unfold keyPair keyCat
  rw [concatenate_pair_apply]
  by_cases h : (i 0).val = 0
  · rw [if_pos h, dif_pos]
    rotate_left
    · exact Nat.lt_one_iff.mpr h
    show IntOp.shrui .host 42#32 32#32 = 0#32
    decide
  · rw [if_neg h, dif_neg]
    · show IntOp.andi 42#32 4294967295#32 = 42#32
      decide
    · intro h'
      exact h (Nat.lt_one_iff.mp h')

/-- The first key word is 0. -/
theorem key_fst : shapeCast S_ (extractStridedSlice S1 ![0] keyPair slices_S2_S1_0) shapeCasts_S1_S_ = fun _ => 0#32 := by
  funext j
  unfold shapeCast extractStridedSlice
  rw [keyPair_apply, if_pos]
  exact (Nat.zero_add _).trans (Nat.lt_one_iff.mp (Fin.isLt (n := 1) _))

/-- The second key word is 42. -/
theorem key_snd : shapeCast S_ (extractStridedSlice S1 ![1] keyPair slices_S2_S1_1) shapeCasts_S1_S_ = fun _ => 42#32 := by
  funext j
  unfold shapeCast extractStridedSlice
  rw [keyPair_apply, if_neg]
  show ¬ (1 + (S1.rowMajor.symm _ 0).val = 0)
  omega

/-- The row-major position of an entry, as a word. -/
def position (i : S128x100000.Idx) : BitVec 32 := BitVec.ofNat 32 (100000 * (i 0).val + (i 1).val)

/-- The counter over 64 bits is the row-major position. -/
theorem wide_apply (i : S128x100000.Idx) : wide i = BitVec.ofNat 64 (100000 * (i 0).val + (i 1).val) := by
  have : wide i = 100000#64 * BitVec.ofNat 64 (i 0).val + 1#64 * BitVec.ofNat 64 (i 1).val := rfl
  rw [this, BitVec.one_mul, BitVec.ofNat_add, BitVec.ofNat_mul]

/-- Its low word. -/
theorem wide_low : trunci 32 wide natLt_32_64 = position := by
  funext i
  show (wide i).setWidth 32 = _
  rw [wide_apply]
  unfold position
  rw [BitVec.setWidth_ofNat_of_le (by omega)]

/-- Its high word is 0: there are fewer than `2 ^ 32` entries. -/
theorem wide_high : trunci 32 (Host.shrui wide
    (broadcastInDim S128x100000 ![] bcast_S_S128x100000 (constantI S_ 64 32#64))) natLt_32_64 = fun _ => 0#32 := by
  funext i
  show ((IntOp.shrui .host (wide i) 32#64)).setWidth 32 = _
  have h0 : (i 0).val < 128 := (i 0).isLt
  have h1 : (i 1).val < 100000 := (i 1).isLt
  rw [wide_apply, show IntOp.shrui .host (BitVec.ofNat 64 (100000 * (i 0).val + (i 1).val)) 32#64
    = BitVec.ofNat 64 (100000 * (i 0).val + (i 1).val) >>> 32#64 from if_pos (by decide)]
  apply BitVec.eq_of_toNat_eq
  simp only [BitVec.toNat_setWidth, BitVec.ushiftRight_eq', BitVec.toNat_ushiftRight, BitVec.toNat_ofNat,
    Nat.shiftRight_eq_div_pow]
  rw [Nat.mod_eq_of_lt (show 100000 * (i 0).val + (i 1).val < 2 ^ 64 by omega)]
  rw [show (100000 * (i 0).val + (i 1).val) / 2 ^ (32 % 2 ^ 64) = 0 from Nat.div_eq_of_lt (by norm_num; omega)]

/-- What the block function leaves: the two words of `Word.threefry` of the position, with the limits and the argument. -/
structure Drawn (V₀ V : Store) : Prop where
  fst : rd V u_v19_0 = fun i => (Word.threefry 0 42 0 (position i)).1
  snd : rd V u_v19_1 = fun i => (Word.threefry 0 42 0 (position i)).2
  low : rd V u_v2 = broadcastInDim S1x1 ![] bcast_S_S1x1 (constant (F := Ideal) S_ .f32 0x00000000#32)
  high : rd V u_v3 = broadcastInDim S1x1 ![] bcast_S_S1x1 (constant (F := Ideal) S_ .f32 0x3F800000#32)
  arg : rd V m_arg0 = rd V₀ m_arg0

/-- The operations up to the block function's last leave the drawn words. -/
theorem drawn (V : Store) : Drawn V (after stepOps (after startOps (after seedOps (after keyWordOps V)))) := by
  obtain ⟨a1, a2, a3, a4⟩ := key_read V
  obtain ⟨b1, b2, b3, b4, b5, b6, b7⟩ := seed_read (after keyWordOps V)
  obtain ⟨c1, c2, c3, c4, c5, c6, c7, c8⟩ := start_read (after seedOps (after keyWordOps V))
  rw [b1, a1, key_fst] at c1 c2 c4
  rw [b2, a1, key_snd] at c1 c3 c5
  rw [b4, wide_high] at c2
  rw [b3, wide_low] at c3
  have H := steps_hold (V := after startOps (after seedOps (after keyWordOps V)))
    (P := fun i => (0#32 + 0#32, position i + 42#32)) c2 c3 c4 c5 (k2 := Word.thirdKey 0 42) c1
  refine ⟨H.fst, H.snd, ?_, ?_, ?_⟩
  · rw [H.kept u_v2 (by decide), c6, b5, a2]
  · rw [H.kept u_v3 (by decide), c7, b6, a3]
  · rw [H.kept m_arg0 (by decide), c8, b7, a4]

end Cert.ReferenceIdeal.Line
-- ==== Proof.RefRead.lean ====
/- What the reference's last operations leave: the uniform draw, its Gumbel noise added to the logits, the softmax, each
   row's argmax, its one-hot row, and the result, as functions of the arrays they read. -/
module

public import proofs.«01_k».proof.Proof.RefSeed

@[expose] public section

noncomputable section

namespace Cert.ReferenceIdeal.Line

open Idealize.ShloMosaic Idealize.ShloMosaic.StableHlo Cert.Line
open Cert.ReferenceIdeal Facts₀ Facts

variable [Facts]

/-- A float array of the logits' shape. -/
abbrev Grid : Type := FVec Ideal S128x100000 .f32

/-- A scalar at every entry. -/
def spread (b : BitVec 32) : Grid :=
  broadcastInDim S128x100000 ![] bcast_S_S128x100000 (constant (F := Ideal) S_ .f32 b)

/-- A row's value at every entry of the row. -/
def along {α : Type} (v : S128.Idx → α) : S128x100000.Idx → α :=
  broadcastInDim S128x100000 ![0, 1] bcast_S128x1_S128x100000_0_1 (broadcastInDim S128x1 ![0] bcast_S128_S128x1_0 v)

/-- The uniform draw between two limits from the two words of each entry. -/
def drawOf (a b : IVec S128x100000 32) (lo hi : FVec Ideal S1x1 .f32) : Grid :=
  maximumf (F := Ideal) (φ := .f32) (broadcastInDim S128x100000 ![0, 1] bcast_S1x1_S128x100000_0_1 lo)
    (addf (F := Ideal) (φ := .f32) (mulf (F := Ideal) (φ := .f32) (subf (F := Ideal) (φ := .f32)
      (bitcastToFloat (F := Ideal) .f32 (ori (Host.shrui (xori a b)
        (broadcastInDim S128x100000 ![] bcast_S_S128x100000 (constantI S_ 32 9#32)))
        (broadcastInDim S128x100000 ![] bcast_S_S128x100000 (constantI S_ 32 1065353216#32))))
      (spread 0x3F800000#32))
      (broadcastInDim S128x100000 ![0, 1] bcast_S1x1_S128x100000_0_1 (subf (F := Ideal) (φ := .f32) hi lo)))
      (broadcastInDim S128x100000 ![0, 1] bcast_S1x1_S128x100000_0_1 lo))

/-- The word operations leave the uniform draw and the argument. -/
theorem word_read (V : Store) :
    rd (after wordOps V) m_v7 = drawOf (rd V u_v19_0) (rd V u_v19_1) (rd V u_v2) (rd V u_v3)
      ∧ rd (after wordOps V) m_arg0 = rd V m_arg0 := by
  refine ⟨?_, ?_⟩ <;>
  simp (disch := decide) only [wordOps, after_cons, after_nil, rd_nul, rd_una, rd_bin, rd_nul_ne, rd_una_ne, rd_bin_ne,
    drawOf, spread, id]

/-- The logits with the Gumbel noise of a uniform draw. -/
def noisy (x u : Grid) : Grid :=
  addf (F := Ideal) (φ := .f32) x (Host.negf (F := Ideal) (φ := .f32) (Host.log (F := Ideal) (φ := .f32)
    (Host.negf (F := Ideal) (φ := .f32) (Host.log (F := Ideal) (φ := .f32)
      (maximumf (F := Ideal) (φ := .f32) (spread 0x00800000#32)
        (addf (F := Ideal) (φ := .f32) u (spread 0x00800000#32)))))))

/-- The noise operations leave the noisy logits. -/
theorem noise_read (V : Store) : rd (after noiseOps V) m_v16 = noisy (rd V m_arg0) (rd V m_v7) := by
  simp (disch := decide) only [noiseOps, after_cons, after_nil, rd_nul, rd_una, rd_bin, rd_nul_ne, rd_una_ne, rd_bin_ne,
    noisy, spread, id]

/-- The noisy logits over the temperature 1. -/
def scaled (z : Grid) : Grid := Host.divf (F := Ideal) (φ := .f32) z (spread 0x3F800000#32)

/-- Each row's maximum. -/
def tops (z : Grid) : FVec Ideal S128 .f32 :=
  maximumf (F := Ideal) (φ := .f32) (broadcastInDim S128 ![] bcast_S_S128 (constant (F := Ideal) S_ .f32 0xFF800000#32))
    (Host.reduce (FloatOps.maximumf (F := Ideal) (φ := .f32)) z (constant (F := Ideal) S_ .f32 0xFF800000#32)
      reducesTo_S128x100000_S128_d1 h_S_)

/-- The exponentials of the distances from the row's maximum. -/
def powers (z : Grid) : Grid :=
  Host.exp (F := Ideal) (φ := .f32) (subf (F := Ideal) (φ := .f32) z (along (tops z)))

/-- Each row's sum. -/
def sums (e : Grid) : FVec Ideal S128 .f32 :=
  Host.reduceAdd (F := Ideal) (φ := .f32) e (constant (F := Ideal) S_ .f32 0x00000000#32) reducesTo_S128x100000_S128_d1 h_S_

/-- The softmax of each row. -/
def shares (z : Grid) : Grid :=
  Host.divf (F := Ideal) (φ := .f32) (powers (scaled z)) (along (sums (powers (scaled z))))

/-- The softmax operations leave the softmax. -/
theorem soft_read (V : Store) : rd (after softOps V) m_v29 = shares (rd V m_v16) := by
  simp (disch := decide) only [softOps, after_cons, after_nil, rd_nul, rd_una, rd_bin, rd_nul_ne, rd_una_ne, rd_bin_ne,
    shares, sums, powers, tops, scaled, along, spread, id]

/-- Each row's argmax. -/
def firsts (y : Grid) : IVec S128 32 := fun j =>
  (Host.argReduce (reducer_argmax_f32_i32 (F := Ideal)) y (iotaInDim S128x100000 32 1)
    (constant (F := Ideal) S_ .f32 0xFF800000#32) (constantI S_ 32 0#32) reducesTo_S128x100000_S128_d1 h_S_ j).2

/-- A reduction of two operands leaves the function of its operands that it is given and keeps the softmax. -/
theorem pick_read (f : FVec Ideal S128x100000 .f32 → IVec S128x100000 32 → FVec Ideal S_ .f32 → IVec S_ 32 → FVec Ideal S128 .f32)
    (g : FVec Ideal S128x100000 .f32 → IVec S128x100000 32 → FVec Ideal S_ .f32 → IVec S_ 32 → IVec S128 32)
    (a : IVec S128x100000 32) (b : FVec Ideal S_ .f32) (c : IVec S_ 32) (V : Store) :
    rd (after ([nul g_v0 a, nul g_cst b, nul g_c c, qua m_v29 g_v0 g_cst g_c g_v1_0 f,
        qua m_v29 g_v0 g_cst g_c m_v30 g] : List Op) V) m_v30 = g (rd V m_v29) a b c
      ∧ rd (after ([nul g_v0 a, nul g_cst b, nul g_c c, qua m_v29 g_v0 g_cst g_c g_v1_0 f,
        qua m_v29 g_v0 g_cst g_c m_v30 g] : List Op) V) m_v29 = rd V m_v29 := by
  refine ⟨?_, ?_⟩ <;>
  simp (disch := decide) only [after_cons, after_nil, rd_nul, rd_qua, rd_nul_ne, rd_qua_ne]

/-- The argmax operations leave each row's argmax and keep the softmax. -/
theorem arg_read (V : Store) :
    rd (after argOps V) m_v30 = firsts (rd V m_v29) ∧ rd (after argOps V) m_v29 = rd V m_v29 :=
  pick_read _ _ _ _ _ V

/-- The one-hot rows of indices. -/
def hots (k : IVec S128 32) : Grid :=
  uitofp (F := Ideal) .f32 (cmpi .eq (along k)
    (broadcastInDim S128x100000 ![0, 1] bcast_S1x100000_S128x100000_0_1 (iotaInDim S1x100000 32 1)))

/-- The one-hot operations leave the one-hot rows and keep the softmax. -/
theorem hot_read (V : Store) :
    rd (after hotOps V) m_v31 = hots (rd V m_v30) ∧ rd (after hotOps V) m_v29 = rd V m_v29 := by
  refine ⟨?_, ?_⟩ <;>
  simp (disch := decide) only [hotOps, after_cons, after_nil, rd_nul, rd_una, rd_bin, rd_nul_ne, rd_una_ne, rd_bin_ne,
    hots, along, id]

/-- The last operations leave the straight-through sum. -/
theorem last_read (V : Store) :
    rd (after lastOps V) m_v33
      = addf (F := Ideal) (φ := .f32) (subf (F := Ideal) (φ := .f32) (rd V m_v31) (rd V m_v29)) (rd V m_v29) := by
  simp (disch := decide) only [lastOps, after_cons, after_nil, rd_bin, rd_bin_ne]

/-- The uniform draw of the reference. -/
def draws : Grid :=
  drawOf (fun i => (Word.threefry 0 42 0 (position i)).1) (fun i => (Word.threefry 0 42 0 (position i)).2)
    (broadcastInDim S1x1 ![] bcast_S_S1x1 (constant (F := Ideal) S_ .f32 0x00000000#32))
    (broadcastInDim S1x1 ![] bcast_S_S1x1 (constant (F := Ideal) S_ .f32 0x3F800000#32))

/-- The reference's result as a function of its softmax. -/
def straight (y : Grid) : Grid :=
  addf (F := Ideal) (φ := .f32) (subf (F := Ideal) (φ := .f32) (hots (firsts y)) y) y

/-- All operations leave the straight-through sum of the softmax of the noisy logits. -/
theorem ops_read (V : Store) : rd (after ops V) m_v33 = straight (shares (noisy (rd V m_arg0) draws)) := by
  have D := drawn V
  unfold ops
  simp only [after_append]
  generalize after stepOps (after startOps (after seedOps (after keyWordOps V))) = V₁ at D ⊢
  rw [last_read, (hot_read _).1, (hot_read _).2, (arg_read _).1, (arg_read _).2, soft_read, noise_read, (word_read _).1,
    (word_read _).2, D.fst, D.snd, D.low, D.high, D.arg]
  rfl

end Cert.ReferenceIdeal.Line
-- ==== Proof.RefValue.lean ====
/- The reference's noisy logits and their softmax, entry by entry, and the step of its argmax. -/
module

public import proofs.«01_k».proof.Proof.RefRead
public import proofs.«01_k».proof.Proof.Target

@[expose] public section

noncomputable section

namespace Cert.ReferenceIdeal.Line

open Idealize.ShloMosaic Idealize.ShloMosaic.StableHlo Cert.Line Cert.Target
open Cert.ReferenceIdeal Facts₀ Facts

variable [Facts]

/-- Row `r` of an array. -/
def row (z : Grid) (r : Fin 128) : Fin 100000 → EReal := fun c => z (ix2 r c)

/-- The one axis that the row reductions drop. -/
theorem drops : S128x100000.Reduces [1] S128 := by decide

/-- The entry over a row at a column. -/
theorem lift_eq (r : Fin 128) (c : Fin 100000) : drops.lift (ix1 r) c = (ix2 r c : S128x100000.Idx) := by
  funext a
  apply Fin.ext
  match a with
  | ⟨0, _⟩ => rfl
  | ⟨1, _⟩ => rfl

/-- A row's value at an entry of the row. -/
theorem along_apply {α : Type} (v : S128.Idx → α) (r : Fin 128) (c : Fin 100000) : along v (ix2 r c) = v (ix1 r) := by
  unfold along
  pointwise

/-- The noisy logits at an entry, from any two words for each entry. -/
theorem noisy_at (x : Grid) (a b : IVec S128x100000 32) (i : S128x100000.Idx) :
    noisy x (drawOf a b (broadcastInDim S1x1 ![] bcast_S_S1x1 (constant (F := Ideal) S_ .f32 0x00000000#32))
      (broadcastInDim S1x1 ![] bcast_S_S1x1 (constant (F := Ideal) S_ .f32 0x3F800000#32))) i
      = x i + Noise.gumbel (a i ^^^ b i) := by
  have h : IntOp.ori (IntOp.shrui .host (IntOp.xori (a i) (b i)) 9#32) 1065353216#32 = Noise.pattern (a i ^^^ b i) := by
    rw [Word.shrui_lt .host _ 9#32 (by decide)]
    rfl
  unfold noisy drawOf spread
  pointwise
  exact congrArg (x i + ·) (Noise.reference_spelling (a i ^^^ b i) _ h)

/-- The noisy logits at an entry. -/
theorem noisy_apply (x : Grid) (i : S128x100000.Idx) :
    noisy x draws i = x i + Noise.gumbel (Word.draw (position i)) := by
  unfold Word.draw draws
  exact noisy_at x _ _ i

/-- Dividing by the temperature 1 changes nothing. -/
theorem scaled_eq (z : Grid) : scaled z = z := by
  funext i
  show Ideal.div (z i) (Ideal.ofBits .f32 0x3F800000#32) = z i
  rw [Ideal.ofBits_one_f32]
  unfold Ideal.div
  rw [if_neg one_ne_zero]
  simp

/-- The pattern of `-∞`. -/
theorem bottom : Ideal.ofBits .f32 0xFF800000#32 = (⊥ : EReal) := by
  simp [Ideal.ofBits, Ideal.ieee]

/-- A fold of the maximum over a row, from `-∞`. -/
theorem reduce_max (z : Grid) (r : Fin 128) :
    Host.reduce (FloatOps.maximumf (F := Ideal) (φ := .f32)) z (constant (F := Ideal) S_ .f32 0xFF800000#32)
      reducesTo_S128x100000_S128_d1 h_S_ (ix1 r) = (Finset.univ : Finset (Fin 100000)).fold max ⊥ (row z r) := by
  have e : (z ∘ drops.lift (ix1 r)) = row z r := funext fun c => congrArg z (lift_eq r c)
  refine (Host.reduce_eq_fold_single _ z _ reducesTo_S128x100000_S128_d1 drops h_S_ (ix1 r)).trans ?_
  rw [e, ← bottom]
  rfl

/-- A maximum of two arrays at an entry. -/
theorem max_at (u v : FVec Ideal S128 .f32) (j : S128.Idx) :
    maximumf (F := Ideal) (φ := .f32) u v j = (max (u j) (v j) : EReal) := rfl

/-- A pattern's value at every row. -/
theorem every_row (b : BitVec 32) (j : S128.Idx) :
    broadcastInDim S128 ![] bcast_S_S128 (constant (F := Ideal) S_ .f32 b) j = Ideal.ofBits .f32 b := rfl

/-- The maximum of a row whose greatest entry is at column `k`. -/
theorem tops_apply (z : Grid) (r : Fin 128) (k : Fin 100000) (b : Row.Best (row z r) k) : tops z (ix1 r) = row z r k := by
  unfold tops
  refine (max_at _ _ _).trans ?_
  rw [every_row, bottom, reduce_max, Row.fold_max b]
  exact max_eq_right bot_le

/-- The exponentials at an entry. -/
theorem powers_apply (z : Grid) (r : Fin 128) (c k : Fin 100000) (b : Row.Best (row z r) k) :
    powers z (ix2 r c) = Ideal.exp (row z r c - row z r k) := by
  have h : ∀ t : Grid, Host.exp (F := Ideal) (φ := .f32) (subf (F := Ideal) (φ := .f32) z t) (ix2 r c)
      = Ideal.exp (z (ix2 r c) - t (ix2 r c)) := fun _ => rfl
  unfold powers
  refine (h _).trans ?_
  rw [along_apply, tops_apply z r k b, row, row]

/-- The sum of a row. -/
theorem sums_apply (e : Grid) (r : Fin 128) : sums e (ix1 r) = 0 + ∑ c : Fin 100000, row e r c := by
  unfold sums
  refine (ValueIdx.hostReduceAdd_apply _ _ _ _ _).trans ?_
  refine (Ideal.hostReduceAdd_single _ drops e _ (ix1 r)).trans ?_
  refine congrArg₂ (fun u v : EReal => u + v) Ideal.ofBits_zero_f32 ?_
  exact Finset.sum_congr rfl fun c _ => congrArg e (lift_eq r c)

/-- The softmax at an entry. -/
theorem shares_apply (z : Grid) (r : Fin 128) (c k : Fin 100000) (b : Row.Best (row z r) k) :
    shares z (ix2 r c) = Ideal.div (Ideal.exp (row z r c - row z r k)) (0 + ∑ i, Ideal.exp (row z r i - row z r k)) := by
  have h : ∀ u v : Grid, Host.divf (F := Ideal) (φ := .f32) u v (ix2 r c) = Ideal.div (u (ix2 r c)) (v (ix2 r c)) :=
    fun _ _ => rfl
  unfold shares
  refine (h _ _).trans ?_
  rw [along_apply, scaled_eq, sums_apply, powers_apply z r c k b]
  have e : ∀ i, row (powers z) r i = Ideal.exp (row z r i - row z r k) := fun i => powers_apply z r i k b
  rw [Finset.sum_congr rfl fun i _ => e i]

/-- The argmax body is a step of `Row.better`. -/
theorem reducer_eq (a b : Ideal .f32 × BitVec 32) : reducer_argmax_f32_i32 (F := Ideal) a b = Row.better a b := by
  obtain ⟨a, i⟩ := a
  obtain ⟨b, j⟩ := b
  have o : ∀ x : BitVec 1, 1#1 ||| x = 1#1 := by decide
  have n : ∀ x : BitVec 1, 1#1 &&& x = x := by decide
  have s : i.slt j = decide (i.toInt < j.toInt) := rfl
  unfold reducer_argmax_f32_i32 Row.better
  change EReal at a b
  simp only [Ideal.cmpf_def, Ideal.cmp, IntOp.cmpi, IntOp.ori, IntOp.andi, Scalar.select]
  by_cases h : b < a
  · simp [h, o]
  · by_cases h' : a = b
    · subst h'
      by_cases g : i.toInt < j.toInt
      · simp [g, s, n]
      · simp [g, s, n]
    · simp [h, h']

end Cert.ReferenceIdeal.Line
-- ==== Proof.ArgMax.lean ====
/- An argmax along one axis of an array, at arrays of any shape: the first index of the greatest entry. -/
module

public import proofs.«01_k».proof.Proof.RowMath

@[expose] public section

noncomputable section

namespace Cert.Row

open Idealize.ShloMosaic

variable {S T U : Shape} {a : Fin S.rank}

/-- The pairs that an argmax runs over are exactly the row's. -/
theorem mem_fiber (h : S.ReducesTo [a] T) (h' : S.Reduces [a] T) (y : S.Idx → EReal) (x : S.Idx → BitVec 32)
    (hx : ∀ i, x i = BitVec.ofNat 32 (i a).val) (j : T.Idx) (q : EReal × BitVec 32) :
    q ∈ Host.argReduceFiber y x h j ↔ ∃ c : Fin (S.size a), q = (y (h'.lift j c), BitVec.ofNat 32 c.val) := by
  unfold Host.argReduceFiber
  rw [List.mem_map]
  constructor
  · rintro ⟨n, hn, rfl⟩
    rw [List.mem_filter] at hn
    have hd := of_decide_eq_true hn.2
    rw [Shape.ReducesTo.drop_eq_drop h h'] at hd
    have hi := h'.lift_drop (S.rowMajor.symm n)
    rw [hd] at hi
    exact ⟨S.rowMajor.symm n a, Prod.ext (congrArg y hi.symm) (hx _)⟩
  · rintro ⟨c, rfl⟩
    refine ⟨S.rowMajor (h'.lift j c), ?_, ?_⟩
    · rw [List.mem_filter]
      refine ⟨List.mem_finRange _, decide_eq_true ?_⟩
      rw [Equiv.symm_apply_apply, Shape.ReducesTo.drop_eq_drop h h']
      exact h'.drop_lift j c
    · rw [Equiv.symm_apply_apply, hx]
      have e : (h'.lift j c) a = c := Fin.ext (by rw [h'.lift_val]; simp [Shape.Reduces.liftVal])
      rw [e]

/-- An argmax whose body is a step of `better`, from `-∞` and index 0, over a row whose greatest entry is above `-∞`. -/
theorem argmax_at (f : Ideal .f32 × BitVec 32 → Ideal .f32 × BitVec 32 → Ideal .f32 × BitVec 32)
    (hf : ∀ p q, f p q = better p q) (y : FVec Ideal S .f32) (x : S.Idx → BitVec 32) (u : U.Idx → Ideal .f32)
    (v : U.Idx → BitVec 32) (h : S.ReducesTo [a] T) (h' : S.Reduces [a] T) (hU : 0 < U.numel)
    (hx : ∀ i, x i = BitVec.ofNat 32 (i a).val) (hu : u (Shape.Idx.first hU) = (⊥ : EReal))
    (hv : v (Shape.Idx.first hU) = 0#32) (j : T.Idx) (k : Fin (S.size a)) (hn : S.size a < 2 ^ 31)
    (b : Best (fun c : Fin (S.size a) => (y (h'.lift j c) : EReal)) k) (hk : (y (h'.lift j k) : EReal) ≠ ⊥) :
    (Host.argReduce f y x u v h hU j).2 = BitVec.ofNat 32 k.val := by
  obtain rfl : f = better := funext fun p => funext fun q => hf p q
  rw [Ideal.argReduce_eq_reduce2, Host.reduce2_eq_foldl_fiber, hu, hv]
  exact foldl_best hn b hk _ (mem_fiber h h' y x hx j)

end Cert.Row
-- ==== Proof.RefPick.lean ====
/- The reference's argmax, its one-hot row, and the straight-through sum of the softmax. -/
module

public import proofs.«01_k».proof.Proof.RefValue
public import proofs.«01_k».proof.Proof.ArgMax

@[expose] public section

noncomputable section

namespace Cert.ReferenceIdeal.Line

open Idealize.ShloMosaic Idealize.ShloMosaic.StableHlo Cert.Line Cert.Target
open Cert.ReferenceIdeal Facts₀ Facts

variable [Facts]

/-- The index of an entry along its row, as the argmax takes it. -/
theorem index_at (i : S128x100000.Idx) : iotaInDim S128x100000 32 1 i = BitVec.ofNat 32 (i 1).val :=
  ValueIdx.iotaInDim_apply _ _ _

/-- A row is shorter than the indices reach. -/
theorem width_lt : S128x100000.size 1 < 2 ^ 31 := by
  show (100000 : ℕ) < 2 ^ 31
  norm_num

/-- The best entry of a row, read through the axis that the argmax drops. -/
theorem best_lift (y : Grid) (r : Fin 128) (k : Fin 100000) (b : Row.Best (row y r) k) :
    Row.Best (fun c : Fin (S128x100000.size 1) => (y (drops.lift (ix1 r) c) : EReal)) k := by
  have e : (fun c : Fin 100000 => (y (drops.lift (ix1 r) c) : EReal)) = row y r :=
    funext fun c => congrArg y (lift_eq r c)
  exact e.symm ▸ b

/-- The best entry of a row is above `-∞` when read so, too. -/
theorem best_lift_ne (y : Grid) (r : Fin 128) (k : Fin 100000) (hk : row y r k ≠ ⊥) :
    (y (drops.lift (ix1 r) k) : EReal) ≠ ⊥ := by
  rw [lift_eq r k]
  exact hk

/-- An argmax over a row of the grid, from any initial pair that holds `-∞` and 0. -/
theorem pick_at (x : S128x100000.Idx → BitVec 32) (u : FVec Ideal S_ .f32) (v : IVec S_ 32) (y : Grid)
    (hx : ∀ i, x i = BitVec.ofNat 32 (i 1).val) (hu : u (Shape.Idx.first h_S_) = (⊥ : EReal))
    (hv : v (Shape.Idx.first h_S_) = 0#32) (r : Fin 128) (k : Fin 100000) (b : Row.Best (row y r) k)
    (hk : row y r k ≠ ⊥) :
    (Host.argReduce (reducer_argmax_f32_i32 (F := Ideal)) y x u v reducesTo_S128x100000_S128_d1 h_S_ (ix1 r)).2
      = BitVec.ofNat 32 k.val :=
  Row.argmax_at (reducer_argmax_f32_i32 (F := Ideal)) reducer_eq y x u v reducesTo_S128x100000_S128_d1 drops h_S_
    hx hu hv (ix1 r) k width_lt (best_lift y r k b) (best_lift_ne y r k hk)

/-- The argmax, spelled out. -/
theorem firsts_eq : firsts = fun y j =>
    (Host.argReduce (reducer_argmax_f32_i32 (F := Ideal)) y (iotaInDim S128x100000 32 1)
      (constant (F := Ideal) S_ .f32 0xFF800000#32) (constantI S_ 32 0#32) reducesTo_S128x100000_S128_d1 h_S_ j).2 := by
  delta firsts
  exact Eq.refl _

/-- The argmax starts from `-∞`. -/
theorem start_value : constant (F := Ideal) S_ .f32 0xFF800000#32 (Shape.Idx.first h_S_) = (⊥ : EReal) :=
  bottom

/-- The argmax starts from index 0. -/
theorem start_index : constantI S_ 32 0#32 (Shape.Idx.first h_S_) = 0#32 :=
  rfl

/-- The argmax of a row whose best entry is above `-∞`. -/
theorem firsts_apply (y : Grid) (r : Fin 128) (k : Fin 100000) (b : Row.Best (row y r) k) (hk : row y r k ≠ ⊥) :
    firsts y (ix1 r) = BitVec.ofNat 32 k.val :=
  (congrFun (congrFun firsts_eq y) (ix1 r)).trans
    (pick_at (iotaInDim S128x100000 32 1) (constant (F := Ideal) S_ .f32 0xFF800000#32) (constantI S_ 32 0#32) y
      index_at start_value start_index r k b hk)

/-- The one-hot row of the word of column `k`. -/
theorem hots_apply (v : IVec S128 32) (r : Fin 128) (c k : Fin 100000) (h : v (ix1 r) = BitVec.ofNat 32 k.val) :
    hots v (ix2 r c) = (if c = k then 1 else 0 : EReal) := by
  have e : ∀ u : IVec S128x100000 32, uitofp (F := Ideal) .f32 (cmpi .eq u
      (broadcastInDim S128x100000 ![0, 1] bcast_S1x100000_S128x100000_0_1 (iotaInDim S1x100000 32 1))) (ix2 r c)
      = FloatOps.uitofp (F := Ideal) .f32 (IntOp.cmpi .eq (u (ix2 r c)) (BitVec.ofNat 32 c.val)) := fun _ => rfl
  unfold hots
  refine (e _).trans ?_
  rw [along_apply, h]
  have inj : BitVec.ofNat 32 k.val = BitVec.ofNat 32 c.val ↔ c = k := by
    constructor
    · intro h
      have := congrArg BitVec.toNat h
      rw [BitVec.toNat_ofNat, BitVec.toNat_ofNat, Nat.mod_eq_of_lt (by omega), Nat.mod_eq_of_lt (by omega)] at this
      exact Fin.ext this.symm
    · rintro rfl; rfl
  show ((((IntOp.cmpi .eq (BitVec.ofNat 32 k.val) (BitVec.ofNat 32 c.val)).toNat : ℕ) : ℝ) : EReal) = _
  by_cases h : c = k
  · rw [if_pos h, inj.2 h]
    simp [IntOp.cmpi]
  · rw [if_neg h]
    have : (BitVec.ofNat 32 k.val == BitVec.ofNat 32 c.val) = false := by
      rw [beq_eq_false_iff_ne]; exact fun e => h (inj.1 e)
    simp only [IntOp.cmpi, this]
    simp

/-- The straight-through sum of the softmax of a row with a real greatest entry marks its first greatest entry. -/
theorem straight_apply (z : Grid) (r : Fin 128) (c k : Fin 100000) (b : Row.Best (row z r) k) (g : ℝ) (hg : row z r k = g) :
    straight (shares z) (ix2 r c) = mark (row z r) c := by
  obtain ⟨p, hp, ho⟩ := Row.softmax b g hg
  have hy : ∀ j, row (shares z) r j = ((p j : ℝ) : EReal) := fun j => (shares_apply z r j k b).trans (hp j)
  have b' : Row.Best (row (shares z) r) k := Row.best_congr (fun i j => by rw [hy i, hy j]; exact ho i j) b
  have e : ∀ h y : Grid, addf (F := Ideal) (φ := .f32) (subf (F := Ideal) (φ := .f32) h y) y (ix2 r c)
      = (h (ix2 r c) - row y r c + row y r c : EReal) := fun _ _ => rfl
  unfold straight
  refine (e _ _).trans ?_
  rw [hots_apply _ r c k (firsts_apply _ r k b' (by rw [hy k]; exact EReal.coe_ne_bot _)), hy c, Row.sub_add_real,
    mark_of_best b]

end Cert.ReferenceIdeal.Line
-- ==== Proof.RefMain.lean ====
/- The reference is its list of operations: the block function's text, the functions around it, and @main, each by
   computation, and what a run of it leaves. -/
module

public import proofs.«01_k».proof.Proof.RefOps

@[expose] public section

noncomputable section

namespace Cert.ReferenceIdeal.Line

open Idealize.ShloMosaic Idealize.ShloMosaic.StableHlo Idealize.SL.Sem Cert.Line
open Cert.ReferenceIdeal Facts₀ Facts

variable [Facts]

set_option maxHeartbeats 4000000 in
set_option maxRecDepth 100000 in
/-- The block function's text runs its operations. -/
theorem three_eq :
    fn_threefry2x32.body (F := Ideal) main_call0.v5 main_call0.v7 main_call0.v18 main_call0.v17 main_call0_call0
      = seq (startOps ++ stepOps) := rfl

set_option maxHeartbeats 4000000 in
set_option maxRecDepth 100000 in
/-- The uniform draw's text is the block function's run with its other operations around it. -/
theorem uniform_around :
    fn_uniform.body (F := Ideal) (.of main_v6) (.of main_cst) (.of main_cst_2) main_call0
      = seq seedOps >>= fun _ => fn_threefry2x32.body (F := Ideal) main_call0.v5 main_call0.v7 main_call0.v18
          main_call0.v17 main_call0_call0 >>= fun _ => seq wordOps := by
  unfold fn_uniform.body
  generalize fn_threefry2x32.body (F := Ideal) main_call0.v5 main_call0.v7 main_call0.v18 main_call0.v17 main_call0_call0 = p
  rfl

/-- The argmax's text runs its operations. -/
theorem arg_eq : fn_argmax.body (F := Ideal) (.of main_v29) main_call1 = seq argOps := rfl

/-- The one-hot rows' text runs its operations. -/
theorem hot_eq : fn_one_hot.body (F := Ideal) (.of main_v30) main_call2 = seq hotOps := rfl

/-- The operation that finds the rows' maxima, over whichever function, in the form of the lists. -/
theorem max_op (f : (⟨S128x100000, .f32⟩ : BufTy).Contents (Elt Ideal) → (⟨S_, .f32⟩ : BufTy).Contents (Elt Ideal)
      → (⟨S128, .f32⟩ : BufTy).Contents (Elt Ideal)) :
    (StableHlo.binary main_v18 main_cst_6 main_v19 f : Op) = bin m_v18 m_cst_6 m_v19 f := rfl

set_option maxHeartbeats 4000000 in
set_option maxRecDepth 100000 in
/-- @main's text is the three functions' runs with its other operations around them. -/
theorem main_around (d : Dev nD) : main (F := Ideal) d
    = seq keyWordOps >>= fun _ => fn_uniform.body (F := Ideal) (.of main_v6) (.of main_cst) (.of main_cst_2) main_call0
        >>= fun _ => seq (noiseOps ++ softOps) >>= fun _ => fn_argmax.body (F := Ideal) (.of main_v29) main_call1
        >>= fun _ => fn_one_hot.body (F := Ideal) (.of main_v30) main_call2 >>= fun _ => seq lastOps := by
  unfold main
  rw [max_op]
  generalize fn_uniform.body (F := Ideal) (.of main_v6) (.of main_cst) (.of main_cst_2) main_call0 = p
  generalize fn_argmax.body (F := Ideal) (.of main_v29) main_call1 = q
  generalize fn_one_hot.body (F := Ideal) (.of main_v30) main_call2 = r
  rfl

/-- The reference runs these operations and nothing else. -/
theorem main_eq (d : Dev nD) : main (F := Ideal) d = seq ops := by
  rw [main_around, uniform_around, three_eq, arg_eq, hot_eq]
  simp only [ops, seq_append, bind_assoc]

end Cert.ReferenceIdeal.Line
-- ==== Proof.RefRun.lean ====
/- What a run of the reference leaves: every buffer as the list of operations computes it, the argument as it was, the
   semaphores at zero. -/
module

public import proofs.«01_k».proof.Proof.RefMain
public import proofs.«01_k».proof.Proof.RefRounds
public import Idealize.ShloMosaic.Lib.Quiescent

@[expose] public section

noncomputable section

namespace Cert.ReferenceIdeal.Line

open Idealize.ShloMosaic Idealize.ShloMosaic.StableHlo Idealize.SL.Sem Cert.Line
open Cert.ReferenceIdeal Facts₀ Facts

variable {T Ta Tb Tc Te : BufTy}

/-- An operation on TensorCore buffers that determines its result and leaves the argument alone. -/
structure Plain (op : Op) : Prop where
  bufs : op.bufs ⊆ tcRefs τ sig
  fresh : op.fresh = ∅
  keeps : Proc.devRef (τ := τ) .tc main_arg0 ∉ op.writes

/-- A reference other than the argument's is not among the writes that hold it alone. -/
theorem keeps_of {op : Op} (y : Ref sig .tc) (hw : op.writes = {Proc.devRef (τ := τ) .tc y}) (h : main_arg0 ≠ y) :
    Proc.devRef (τ := τ) .tc main_arg0 ∉ op.writes := by
  rw [hw, Finset.mem_singleton]
  exact devRef_ne_of_ne h

/-- A constant is plain. -/
theorem plain_nul (y : TRef sig T) (v : T.Contents (Elt Ideal)) (h : main_arg0 ≠ y.ref) : Plain (nul y v) :=
  ⟨nullary_bufs_sub _ (y.toBuf v) y.dev, rfl, keeps_of y.ref rfl h⟩

/-- An operation of one operand is plain. -/
theorem plain_una (a : TRef sig Ta) (y : TRef sig T) (f : Ta.Contents (Elt Ideal) → T.Contents (Elt Ideal))
    (h : main_arg0 ≠ y.ref) : Plain (una a y f) := ⟨unary_bufs_sub _ _ (fun u => y.toBuf (f (a.ofBuf u))) a.dev y.dev, rfl, keeps_of y.ref rfl h⟩

/-- An operation of two operands is plain. -/
theorem plain_bin (a : TRef sig Ta) (b : TRef sig Tb) (y : TRef sig T)
    (f : Ta.Contents (Elt Ideal) → Tb.Contents (Elt Ideal) → T.Contents (Elt Ideal)) (h : main_arg0 ≠ y.ref) :
    Plain (bin a b y f) := ⟨binary_bufs_sub _ _ _ (fun u v => y.toBuf (f (a.ofBuf u) (b.ofBuf v))) a.dev b.dev y.dev, rfl, keeps_of y.ref rfl h⟩

/-- An operation of four operands is plain. -/
theorem plain_qua (a : TRef sig Ta) (b : TRef sig Tb) (c : TRef sig Tc) (e : TRef sig Te) (y : TRef sig T)
    (f : Ta.Contents (Elt Ideal) → Tb.Contents (Elt Ideal) → Tc.Contents (Elt Ideal) → Te.Contents (Elt Ideal)
      → T.Contents (Elt Ideal)) (h : main_arg0 ≠ y.ref) : Plain (qua a b c e y f) :=
  ⟨quaternary_bufs_sub _ _ _ _ _ (fun s t u v => y.toBuf (f (a.ofBuf s) (b.ofBuf t) (c.ofBuf u) (e.ofBuf v))) a.dev b.dev c.dev e.dev y.dev, rfl, keeps_of y.ref rfl h⟩

/-- A reshape is plain. -/
theorem plain_rsh {s s' : Shape} {e : EltTy} (a : TRef sig ⟨s, e⟩) (y : TRef sig ⟨s', e⟩) (hn : s.ShapeCasts s')
    (h : main_arg0 ≠ y.ref) : Plain (rsh a y hn) := ⟨reshape_bufs_sub _ _ _ _ a.dev y.dev, rfl, keeps_of y.ref rfl h⟩

variable [Facts]

set_option maxHeartbeats 4000000 in
/-- Every operation of the reference is plain. -/
theorem ops_plain : ops.Forall Plain := by
  simp only [ops, stepOps, List.forall_append]
  refine ⟨?_, ?_, ?_, ⟨?_, ?_, ?_, ?_, ?_, ?_, ?_, ?_, ?_, ?_, ?_, ?_, ?_, ?_, ?_, ?_, ?_, ?_, ?_, ?_, ?_, ?_, ?_, ?_, ?_⟩,
    ?_, ?_, ?_, ?_, ?_, ?_⟩
  all_goals
    repeat' first
      | exact plain_nul _ _ (by decide)
      | exact plain_una _ _ _ (by decide)
      | exact plain_bin _ _ _ _ (by decide)
      | exact plain_qua _ _ _ _ _ _ (by decide)
      | exact plain_rsh _ _ _ (by decide)
      | refine And.intro ?_ ?_

/-- Every run of the reference ends, with every buffer as the operations compute it. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc),
        r.2.mem ((d.tc : Thread nD τ).loc b) = after ops (launchContents m d) (Proc.devRef .tc b) :=
  run_seq (by decide) (by decide) defs main (fun _ => ops) main_eq
    (fun _ => List.forall_iff_forall_mem.mpr fun op h => (List.forall_iff_forall_mem.mp ops_plain op h).bufs) m ρ
    (fun _ op h => (List.forall_iff_forall_mem.mp ops_plain op h).fresh)

/-- The operations leave the argument as it was. -/
theorem after_arg (V : Store) : after ops V (Proc.devRef .tc main_arg0) = V (Proc.devRef .tc main_arg0) :=
  after_of_forall_not_mem ops V fun op h => (List.forall_iff_forall_mem.mp ops_plain op h).keeps

/-- Every run of the reference ends with its argument unchanged and the semaphores at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0))
        ∧ r.2.sem = fun _ => 0 :=
  (θ_run defs _ _).mono (fun r h => ⟨fun c => (h c main_arg0).trans (after_arg _), sem_eq_zero_of_no_sems rfl r.2⟩)
    (run m ρ)

end Cert.ReferenceIdeal.Line
-- ==== Proof.RefSample.lean ====
/- The reference's run: it ends with the sample of the logits, when each row's greatest logit is finite. -/
module

public import proofs.«01_k».proof.Proof.RefPick
public import proofs.«01_k».proof.Proof.RefRun

@[expose] public section

noncomputable section

namespace Cert.ReferenceIdeal.Line

open Idealize.ShloMosaic Idealize.ShloMosaic.StableHlo Idealize.SL.Sem Cert.Line Cert.Target
open Cert.ReferenceIdeal Facts₀ Facts

variable [Facts]

/-- A row of the reference's noisy logits. -/
theorem row_noisy (x : Grid) (r : Fin 128) : row (noisy x draws) r = noisyRow x r := by
  funext c
  unfold row
  refine (noisy_apply x (ix2 r c)).trans ?_
  unfold noisyRow
  have e : position (ix2 r c) = BitVec.ofNat 32 (100000 * r.val + c.val) := rfl
  rw [e]

/-- The greatest entry of a noisy row is real. -/
theorem noisy_top (x : Grid) (r : Fin 128) (hi : ∀ c, row x r c ≠ ⊤) (lo : ∃ c, row x r c ≠ ⊥) (k : Fin 100000)
    (b : Row.Best (noisyRow x r) k) : ∃ g : ℝ, noisyRow x r k = g := by
  have h : ∀ c, ∃ g : ℝ, noisyRow x r c = row x r c + g := fun c => by
    obtain ⟨g, hg⟩ := Noise.gumbel_value (Word.draw (BitVec.ofNat 32 (100000 * r.val + c.val)))
    exact ⟨g, congrArg (row x r c + ·) hg⟩
  have top : noisyRow x r k ≠ ⊤ := by
    obtain ⟨g, hg⟩ := h k
    rw [hg]
    exact (EReal.add_lt_top (hi k) (EReal.coe_ne_top g)).ne
  have bot : noisyRow x r k ≠ ⊥ := by
    obtain ⟨c, hc⟩ := lo
    obtain ⟨g, hg⟩ := h c
    have n : noisyRow x r c ≠ ⊥ := by
      rw [hg]
      exact fun e => (EReal.add_eq_bot_iff.1 e).elim hc (EReal.coe_ne_bot g)
    exact ((bot_lt_iff_ne_bot.2 n).trans_le (b.1 c)).ne'
  exact ⟨(noisyRow x r k).toReal, (EReal.coe_toReal top bot).symm⟩

/-- The reference computes the sample of logits whose rows have a finite greatest entry. -/
theorem straight_sample (x : Grid) (h : ∀ r, (∀ c, row x r c ≠ ⊤) ∧ ∃ c, row x r c ≠ ⊥) :
    straight (shares (noisy x draws)) = sample x := by
  funext i
  obtain ⟨r, c, rfl⟩ : ∃ (r : Fin 128) (c : Fin 100000), i = ix2 r c := ⟨i 0, i 1, by
    funext a
    match a with
    | ⟨0, _⟩ => rfl
    | ⟨1, _⟩ => rfl⟩
  obtain ⟨k, b⟩ := Row.best_exists (noisyRow x r) (by norm_num)
  obtain ⟨g, hg⟩ := noisy_top x r (h r).1 (h r).2 k b
  have e := row_noisy x r
  refine (straight_apply _ r c k (e.symm ▸ b) g ((congrFun e k).trans hg)).trans ?_
  rw [e]
  rfl

/-- Every run of the reference ends with the sample of the logits in the result and the logits as they were. -/
theorem run_sample (m : (ℓ : Loc nD τ sig) → Buf (Elt Ideal) ℓ) (ρ : Dev nD → PrngReg)
    (h : ∀ (d : Dev nD) (r : Fin 128), (∀ c, row (m ((d.tc : Thread nD τ).loc main_arg0)) r c ≠ ⊤)
      ∧ ∃ c, row (m ((d.tc : Thread nD τ).loc main_arg0)) r c ≠ ⊥) :
    θ_run (defs (F := Ideal)) (onTc (τ := τ) (main (F := Ideal))) ⟨m, fun _ => 0, ρ⟩ fun r => ∀ d : Dev nD,
      r.2.mem ((d.tc : Thread nD τ).loc main_v33) = (sample (m ((d.tc : Thread nD τ).loc main_arg0)) : Grid)
      ∧ r.2.mem ((d.tc : Thread nD τ).loc main_arg0) = m ((d.tc : Thread nD τ).loc main_arg0) := by
  refine (θ_run defs _ _).mono (fun r H d => ⟨?_, (H d main_arg0).trans (after_arg _)⟩) (run m ρ)
  exact ((H d main_v33).trans (ops_read _)).trans (straight_sample _ (h d))

end Cert.ReferenceIdeal.Line
-- ==== Proof.Finite.lean ====
/- What the precondition says: in each row no logit is `+∞` and some logit is above `-∞`. -/
module

public import proofs.«01_k».proof.Pre_rows_have_finite_top
public import proofs.«01_k».proof.Proof.RefValue
public import proofs.«01_k».proof.Proof.Gen.ReferenceIdeal

@[expose] public section

noncomputable section

namespace Cert.Pre_rows_have_finite_top

open Idealize.ShloMosaic Cert.ReferenceIdeal.Line
open Facts

variable [Facts]

/-- The greatest logit of a row, as the precondition computes it. -/
theorem top_apply (x : FVec Ideal S128x100000 .f32) (r : Fin 128) :
    Host.reduce (FloatOps.maximumf (F := Ideal) (φ := .f32)) x (constant (F := Ideal) S_ .f32 0xFF800000#32)
      reducesTo_S128x100000_S128_d1 h_S_ (ix1 r) = (Finset.univ : Finset (Fin 100000)).fold max ⊥ (row x r) := by
  have e : (x ∘ drops.lift (ix1 r)) = row x r := funext fun c => congrArg x (lift_eq r c)
  refine (Host.reduce_eq_fold_single _ x _ reducesTo_S128x100000_S128_d1 drops h_S_ (ix1 r)).trans ?_
  rw [e, ← bottom]
  rfl

/-- The precondition's comparison at a row, from any row maxima. -/
theorem between (t : FVec Ideal S128 .f32) (j : S128.Idx) :
    andi (cmpf (F := Ideal) (φ := .f32) .olt t
        (broadcastInDim S128 ![] bcast_S_S128 (constant (F := Ideal) S_ .f32 0x7F800000#32)))
      (cmpf (F := Ideal) (φ := .f32) .ogt t
        (broadcastInDim S128 ![] bcast_S_S128 (constant (F := Ideal) S_ .f32 0xFF800000#32))) j
      = IntOp.andi (FloatOps.cmpf (F := Ideal) (φ := .f32) .olt (t j) (Ideal.ofBits .f32 0x7F800000#32))
          (FloatOps.cmpf (F := Ideal) (φ := .f32) .ogt (t j) (Ideal.ofBits .f32 0xFF800000#32)) := rfl

/-- The pattern of `+∞`. -/
theorem above : Ideal.ofBits .f32 0x7F800000#32 = (⊤ : EReal) := by
  simp [Ideal.ofBits, Ideal.ieee]

/-- The comparison holds only of a value between the infinities. -/
theorem finite_of_between (t : Ideal .f32)
    (h : IntOp.andi (FloatOps.cmpf (F := Ideal) (φ := .f32) .olt t (Ideal.ofBits .f32 0x7F800000#32))
          (FloatOps.cmpf (F := Ideal) (φ := .f32) .ogt t (Ideal.ofBits .f32 0xFF800000#32)) = 1#1) :
    (t : EReal) < ⊤ ∧ (⊥ : EReal) < t := by
  rw [above, bottom] at h
  change EReal at t
  simp only [Ideal.cmpf_def, Ideal.cmp, IntOp.andi] at h
  by_cases a : t < ⊤
  · by_cases b : ⊥ < t
    · exact ⟨a, b⟩
    · exfalso; simp [b] at h
  · exfalso; simp [a] at h

/-- Under the precondition no logit is `+∞`, and each row has a logit above `-∞`. -/
theorem finite_rows (x : FVec Ideal S128x100000 .f32) (h : fn (F := Ideal) x = fun _ => 1#1) (r : Fin 128) :
    (∀ c, row x r c ≠ ⊤) ∧ ∃ c, row x r c ≠ ⊥ := by
  have g := (between _ _).symm.trans (congrFun h (ix1 r))
  have f := finite_of_between _ g
  beta_reduce at f
  rw [top_apply] at f
  obtain ⟨k, b⟩ := Row.best_exists (row x r) (by norm_num)
  rw [Row.fold_max b] at f
  exact ⟨fun c => ((b.1 c).trans_lt f.1).ne, k, f.2.ne'⟩

end Cert.Pre_rows_have_finite_top
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_rows_have_finite_top
public import proofs.«01_k».proof.Proof.Gen.KernelIdeal.Value
public import proofs.«01_k».proof.Proof.KernelValue
public import proofs.«01_k».proof.Proof.RefSample
public import proofs.«01_k».proof.Proof.Finite
public import Idealize.ShloMosaic.Adequacy
public import Idealize.ShloMosaic.Init

@[expose] public section

noncomputable section

namespace Cert.Proof

open Idealize.ShloMosaic Idealize.SL.Sem

/-- From equal logits whose rows have a finite greatest entry, kernel and reference both end with their sample. -/
theorem algebraic : Cert.algebraic_KernelIdeal_ReferenceIdeal_pre_rows_have_finite_top := by
  intro m g m' g' pre same
  refine ⟨fun c => Target.sample (m ((c.tc : Thread Cert.KernelIdeal.nD Cert.KernelIdeal.τ).loc Cert.KernelIdeal.main_arg0)),
    Cert.KernelIdeal.Block.run_sample m g, ?_⟩
  have fin := fun (d : Dev Cert.ReferenceIdeal.nD) => Cert.Pre_rows_have_finite_top.finite_rows
    (m' ((d.tc : Thread Cert.ReferenceIdeal.nD Cert.ReferenceIdeal.τ).loc Cert.ReferenceIdeal.main_arg0))
    (by rw [same d]; exact pre d)
  refine (θ_run Cert.ReferenceIdeal.defs _ _).mono (fun r H d => ⟨(H d).1.trans ?_, (H d).2⟩)
    (Cert.ReferenceIdeal.Line.run_sample m' g' fin)
  exact congrArg Target.sample (same d)

/-- Every claim. -/
theorem claim : Cert.Claim :=
  ⟨Cert.Kernel.Gen.facts, Cert.KernelIdeal.Gen.facts, Cert.ReferenceIdeal.Gen.facts,
    Cert.Pre_rows_have_finite_top.Gen.facts,
    fun m ρ _ => Cert.Kernel.Gen.frame m ρ, fun m ρ _ => Cert.KernelIdeal.Gen.frame m ρ,
    fun m ρ _ => Cert.KernelIdeal.Gen.frame m ρ, fun m ρ _ => Cert.ReferenceIdeal.Line.frame m ρ,
    fun m ρ _ => Cert.ReferenceIdeal.Line.frame m ρ, trivial, algebraic⟩

end Cert.Proof

end
